-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![4096, 2048]⟩ (Layout.meshBlock [2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![4096, 8192]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = Layout.blockN ⟨2, ![1024, 8192]⟩ ⟨2, ![2048, 8192]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x8192 : Shape := ⟨2, ![2048, 8192]⟩
abbrev S_ : Shape := ⟨0, ![]⟩
abbrev S2048x4096 : Shape := ⟨2, ![2048, 4096]⟩
abbrev S1024x8192 : Shape := ⟨2, ![1024, 8192]⟩
abbrev S1024x4096 : Shape := ⟨2, ![1024, 4096]⟩
abbrev S8 : Shape := ⟨1, ![8]⟩
abbrev S2048x1024 : Shape := ⟨2, ![2048, 1024]⟩
abbrev S2048x512 : Shape := ⟨2, ![2048, 512]⟩
abbrev S1024x512 : Shape := ⟨2, ![1024, 512]⟩
abbrev S1 : Shape := ⟨1, ![1]⟩

abbrev nBuf : Space → Nat
  | .hbm => 18
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2048x4096, .bf16⟩
  | .hbm, ⟨17, _⟩ => ⟨S1024x8192, .bf16⟩
  | .local _ .vmem, ⟨0, _⟩ => ⟨S2048x2048, .bf16⟩
  | .local _ .vmem, ⟨1, _⟩ => ⟨S2048x4096, .bf16⟩
  | .local _ .vmem, ⟨2, _⟩ => ⟨S1024x8192, .bf16⟩
  | .local _ .vmem, ⟨3, _⟩ => ⟨S1024x4096, .bf16⟩
  | .local _ .vmem, ⟨4, _⟩ => ⟨S1024x4096, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_v6 : Ref sig .tc := ⟨.hbm, 11, rfl⟩
abbrev main_c_3 : Ref sig .tc := ⟨.hbm, 12, rfl⟩
abbrev main_v7 : Ref sig .tc := ⟨.hbm, 13, rfl⟩
abbrev main_v8 : Ref sig .tc := ⟨.hbm, 14, rfl⟩
abbrev main_c_4 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) : Fin 2 → Nat :=
  let c0 : Index := 0#32
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v17 : BitVec 32 := Scalar.subi c1_i32_12 v2
  let c1024_i32 : BitVec 32 := 1024#32
  let v18 : BitVec 32 := Scalar.muli v17 c1024_i32
  let v20 : Index := Scalar.indexCast v18
  ![0, v20.toNat]
def k0_dev3 (d0 : Dev nD) : Nat :=
  let c0_i32_21 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_20 : BitVec 32 := 2#32
  let v30 : BitVec 32 := Scalar.muli v6 c2_i32_20
  let v31 : BitVec 32 := Scalar.addi c0_i32_21 v30
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_22 : BitVec 32 := 1#32
  let v32 : BitVec 32 := Scalar.muli v5 c1_i32_22
  let v33 : BitVec 32 := Scalar.addi v31 v32
  v33.toNat
def k0_dev4 (d0 : Dev nD) : Nat :=
  let c0_i32_35 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_34 : BitVec 32 := 2#32
  let v50 : BitVec 32 := Scalar.muli v6 c2_i32_34
  let v51 : BitVec 32 := Scalar.addi c0_i32_35 v50
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_36 : BitVec 32 := 1#32
  let v52 : BitVec 32 := Scalar.muli v5 c1_i32_36
  let v53 : BitVec 32 := Scalar.addi v51 v52
  v53.toNat
def k0_dev5 (d0 : Dev nD) : Nat :=
  let c0_i32_48 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_47 : BitVec 32 := 2#32
  let v70 : BitVec 32 := Scalar.muli v6 c2_i32_47
  let v71 : BitVec 32 := Scalar.addi c0_i32_48 v70
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_49 : BitVec 32 := 1#32
  let v72 : BitVec 32 := Scalar.muli v5 c1_i32_49
  let v73 : BitVec 32 := Scalar.addi v71 v72
  v73.toNat
def k0_dev6 (d0 : Dev nD) : Nat :=
  let c0_i32_61 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_60 : BitVec 32 := 2#32
  let v90 : BitVec 32 := Scalar.muli v6 c2_i32_60
  let v91 : BitVec 32 := Scalar.addi c0_i32_61 v90
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_62 : BitVec 32 := 1#32
  let v92 : BitVec 32 := Scalar.muli v5 c1_i32_62
  let v93 : BitVec 32 := Scalar.addi v91 v92
  v93.toNat
def k0_dev7 (d0 : Dev nD) : Nat :=
  let c0_i32_73 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_72 : BitVec 32 := 2#32
  let v110 : BitVec 32 := Scalar.muli v6 c2_i32_72
  let v111 : BitVec 32 := Scalar.addi c0_i32_73 v110
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_74 : BitVec 32 := 1#32
  let v112 : BitVec 32 := Scalar.muli v5 c1_i32_74
  let v113 : BitVec 32 := Scalar.addi v111 v112
  v113.toNat
def k0_dev8 (d0 : Dev nD) : Nat :=
  let c0_i32_85 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_84 : BitVec 32 := 2#32
  let v130 : BitVec 32 := Scalar.muli v6 c2_i32_84
  let v131 : BitVec 32 := Scalar.addi c0_i32_85 v130
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_86 : BitVec 32 := 1#32
  let v132 : BitVec 32 := Scalar.muli v5 c1_i32_86
  let v133 : BitVec 32 := Scalar.addi v131 v132
  v133.toNat
def k0_dev9 (d0 : Dev nD) : Nat :=
  let c0_i32_97 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_96 : BitVec 32 := 2#32
  let v150 : BitVec 32 := Scalar.muli v6 c2_i32_96
  let v151 : BitVec 32 := Scalar.addi c0_i32_97 v150
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_98 : BitVec 32 := 1#32
  let v152 : BitVec 32 := Scalar.muli v5 c1_i32_98
  let v153 : BitVec 32 := Scalar.addi v151 v152
  v153.toNat
def k0_dev10 (d0 : Dev nD) : Nat :=
  let c0_i32_109 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_108 : BitVec 32 := 2#32
  let v170 : BitVec 32 := Scalar.muli v6 c2_i32_108
  let v171 : BitVec 32 := Scalar.addi c0_i32_109 v170
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_110 : BitVec 32 := 1#32
  let v172 : BitVec 32 := Scalar.muli v5 c1_i32_110
  let v173 : BitVec 32 := Scalar.addi v171 v172
  v173.toNat
def k0_off2 (d0 : Dev nD) : Fin 2 → Nat :=
  let c0_114 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_13 : BitVec 32 := 1024#32
  let v19 : BitVec 32 := Scalar.muli v2 c1024_i32_13
  let v180 : Index := Scalar.indexCast v19
  ![0, v180.toNat]
def k0_off3 (d0 : Dev nD) (c0_i32_118 : BitVec 32) : Fin 2 → Nat :=
  let c0_119 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v187 : BitVec 32 := Scalar.muli v5 c4096_i32
  let v188 : BitVec 32 := Scalar.addi v187 c0_i32_118
  let v189 : Index := Scalar.indexCast v188
  ![0, v189.toNat]
def k0_off4 (d0 : Dev nD) (c0_i32_170 : BitVec 32) : Fin 2 → Nat :=
  let c0_i32_196 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32_169 : BitVec 32 := 4096#32
  let v268 : BitVec 32 := Scalar.muli v5 c4096_i32_169
  let v269 : BitVec 32 := Scalar.addi v268 c0_i32_170
  ![0, v269.toNat]
def k0_dev11 (d0 : Dev nD) : Nat :=
  let c0_i32_194 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_193 : BitVec 32 := 2#32
  let v292 : BitVec 32 := Scalar.muli v2 c2_i32_193
  let v293 : BitVec 32 := Scalar.addi c0_i32_194 v292
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_195 : BitVec 32 := 1#32
  let v294 : BitVec 32 := Scalar.muli v7 c1_i32_195
  let v295 : BitVec 32 := Scalar.addi v293 v294
  v295.toNat
def k0_dev12 (d0 : Dev nD) : Nat :=
  let c0_i32_223 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_222 : BitVec 32 := 2#32
  let v326 : BitVec 32 := Scalar.muli v2 c2_i32_222
  let v327 : BitVec 32 := Scalar.addi c0_i32_223 v326
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_224 : BitVec 32 := 1#32
  let v328 : BitVec 32 := Scalar.muli v7 c1_i32_224
  let v329 : BitVec 32 := Scalar.addi v327 v328
  v329.toNat
def k0_dev13 (d0 : Dev nD) : Nat :=
  let c0_i32_252 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_251 : BitVec 32 := 2#32
  let v360 : BitVec 32 := Scalar.muli v2 c2_i32_251
  let v361 : BitVec 32 := Scalar.addi c0_i32_252 v360
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_253 : BitVec 32 := 1#32
  let v362 : BitVec 32 := Scalar.muli v7 c1_i32_253
  let v363 : BitVec 32 := Scalar.addi v361 v362
  v363.toNat
def k0_dev14 (d0 : Dev nD) : Nat :=
  let c0_i32_281 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_280 : BitVec 32 := 2#32
  let v394 : BitVec 32 := Scalar.muli v2 c2_i32_280
  let v395 : BitVec 32 := Scalar.addi c0_i32_281 v394
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_282 : BitVec 32 := 1#32
  let v396 : BitVec 32 := Scalar.muli v7 c1_i32_282
  let v397 : BitVec 32 := Scalar.addi v395 v396
  v397.toNat
def k0_dev15 (d0 : Dev nD) : Nat :=
  let c0_i32_310 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_309 : BitVec 32 := 2#32
  let v428 : BitVec 32 := Scalar.muli v2 c2_i32_309
  let v429 : BitVec 32 := Scalar.addi c0_i32_310 v428
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_311 : BitVec 32 := 1#32
  let v430 : BitVec 32 := Scalar.muli v7 c1_i32_311
  let v431 : BitVec 32 := Scalar.addi v429 v430
  v431.toNat
def k0_dev16 (d0 : Dev nD) : Nat :=
  let c0_i32_339 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_338 : BitVec 32 := 2#32
  let v462 : BitVec 32 := Scalar.muli v2 c2_i32_338
  let v463 : BitVec 32 := Scalar.addi c0_i32_339 v462
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_340 : BitVec 32 := 1#32
  let v464 : BitVec 32 := Scalar.muli v7 c1_i32_340
  let v465 : BitVec 32 := Scalar.addi v463 v464
  v465.toNat
def k0_dev17 (d0 : Dev nD) : Nat :=
  let c0_i32_368 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_367 : BitVec 32 := 2#32
  let v496 : BitVec 32 := Scalar.muli v2 c2_i32_367
  let v497 : BitVec 32 := Scalar.addi c0_i32_368 v496
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_369 : BitVec 32 := 1#32
  let v498 : BitVec 32 := Scalar.muli v7 c1_i32_369
  let v499 : BitVec 32 := Scalar.addi v497 v498
  v499.toNat
def k0_dev18 (d0 : Dev nD) : Nat :=
  let c0_i32_397 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_396 : BitVec 32 := 2#32
  let v530 : BitVec 32 := Scalar.muli v2 c2_i32_396
  let v531 : BitVec 32 := Scalar.addi c0_i32_397 v530
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_398 : BitVec 32 := 1#32
  let v532 : BitVec 32 := Scalar.muli v7 c1_i32_398
  let v533 : BitVec 32 := Scalar.addi v531 v532
  v533.toNat
abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x2048 : Shape := ⟨2, ![4096, 2048]⟩
abbrev S4096x8192 : Shape := ⟨2, ![4096, 8192]⟩
abbrev S2048x4096 : Shape := ⟨2, ![2048, 4096]⟩
abbrev S2048x8192 : Shape := ⟨2, ![2048, 8192]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S2048x4096, .f32⟩
  | .hbm, ⟨4, _⟩ => ⟨S4096x8192, .f32⟩
  | .hbm, ⟨5, _⟩ => ⟨S2048x8192, .f32⟩
  | .hbm, ⟨6, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Program.lean ====
module

public import proofs.«01_k».proof.Proof.Gen.KernelIdeal.Points

@[expose] public section

noncomputable section

/-! # The kernel's body as four passes over eight chunks

The body is a prologue (two barrier signals, one barrier wait) and then four passes; each pass runs
one short program for each of the eight chunks of 512 columns. This file names the four short
programs and states that the body is their composition. -/

namespace Proof

open Idealize.ShloMosaic Idealize.ShloMosaic.TcCoe
open Idealize.SL Idealize.SL.Sem
open Cert.KernelIdeal Cert.KernelIdeal.Gen

variable {F : FTy → Type} [FloatOps F]

/-- The staged rows of `x`. -/
abbrev xM : Memref sig .tc .vmem S2048x2048 .bf16 := Memref.whole cc0_stg0_0
/-- The staged columns of `dy`. -/
abbrev yM : Memref sig .tc .vmem S2048x4096 .bf16 := Memref.whole cc0_stg1_0
/-- The staged result. -/
abbrev oM : Memref sig .tc .vmem S1024x8192 .bf16 := Memref.whole cc0_stg2_0
/-- The buffer the partial products are sent from. -/
abbrev sM : Memref sig .tc .vmem S1024x4096 .bf16 := Memref.whole cc0_scratch0
/-- The buffer the partial products arrive in. -/
abbrev rM : Memref sig .tc .vmem S1024x4096 .bf16 := Memref.whole cc0_scratch1

/-- Chunk `i` of a 1024x4096 buffer lies inside it. -/
theorem col_inb (i : Fin 8) : ∀ a, (![0, 512 * i.val] : Fin 2 → Nat) a + S1024x512.size a ≤ S1024x4096.size a := by
  revert i; decide

/-- Chunk `i` of the 2048x4096 buffer lies inside it. -/
theorem ycol_inb (i : Fin 8) : ∀ a, (![0, 512 * i.val] : Fin 2 → Nat) a + S2048x512.size a ≤ S2048x4096.size a := by
  revert i; decide

/-- Semaphore `i` of an array of eight lies inside it. -/
theorem sem_inb (i : Fin 8) : ∀ a, (![i.val] : Fin 1 → Nat) a + S1.size a ≤ S8.size a := by
  revert i; decide

/-- The columns of chunk `i` in a 1024x4096 buffer. -/
abbrev colR (i : Fin 8) : Rect S1024x4096 := Rect.unit (s := S1024x4096) ![0, 512 * i.val] S1024x512.size (col_inb i)
/-- The columns of chunk `i` in the staged columns of `dy`. -/
abbrev ycolR (i : Fin 8) : Rect S2048x4096 := Rect.unit (s := S2048x4096) ![0, 512 * i.val] S2048x512.size (ycol_inb i)
/-- The columns of `x` whose product device `d` sends to its neighbour along the first axis. -/
abbrev xsendR (d : Dev nD) : Rect S2048x2048 := Rect.unit (s := S2048x2048) (k0_off1 d) S2048x1024.size (k0_off1_inb d)
/-- The columns of `x` whose product device `d` keeps. -/
abbrev xkeepR (d : Dev nD) : Rect S2048x2048 := Rect.unit (s := S2048x2048) (k0_off2 d) S2048x1024.size (k0_off2_inb d)
/-- The columns of the result that chunk `i` of device `d` fills. -/
abbrev outR (d : Dev nD) (i : Fin 8) : Rect S1024x8192 :=
  Rect.unit (s := S1024x8192) (k0_off4 d (BitVec.ofNat 32 (512 * i.val))) S1024x512.size (k0_off4_inb d i)

/-- Chunk `i` of the send buffer. -/
abbrev sC (i : Fin 8) : Memref sig .tc .vmem S1024x512 .bf16 := sM.slice (colR i) (fun _ => rfl)
/-- Chunk `i` of the receive buffer. -/
abbrev rC (i : Fin 8) : Memref sig .tc .vmem S1024x512 .bf16 := rM.slice (colR i) (fun _ => rfl)
/-- The part of the staged result that chunk `i` of device `d` fills. -/
abbrev oC (d : Dev nD) (i : Fin 8) : Memref sig .tc .vmem S1024x512 .bf16 := oM.slice (outR d i) (fun _ => rfl)

/-- A chunk of the 1024x4096 buffers is stored whole rows at a time. -/
theorem col_packed (i : Fin 8) : (colR i).PackedRows (EltTy.packing .bf16) := by
  revert i
  intro i
  match i with
  | 0 => exact packedbf16_S1024x4096_S1024x512_0_0
  | 1 => exact packedbf16_S1024x4096_S1024x512_0_512
  | 2 => exact packedbf16_S1024x4096_S1024x512_0_1024
  | 3 => exact packedbf16_S1024x4096_S1024x512_0_1536
  | 4 => exact packedbf16_S1024x4096_S1024x512_0_2048
  | 5 => exact packedbf16_S1024x4096_S1024x512_0_2560
  | 6 => exact packedbf16_S1024x4096_S1024x512_0_3072
  | 7 => exact packedbf16_S1024x4096_S1024x512_0_3584

/-- A chunk of the 1024x4096 buffers is whole words. -/
theorem col_words (i : Fin 8) : (colR i).WholeWords (EltTy.packing .bf16) := by
  match i with
  | 0 => exact wordsbf16_S1024x4096_S1024x512_0_0
  | 1 => exact wordsbf16_S1024x4096_S1024x512_0_512
  | 2 => exact wordsbf16_S1024x4096_S1024x512_0_1024
  | 3 => exact wordsbf16_S1024x4096_S1024x512_0_1536
  | 4 => exact wordsbf16_S1024x4096_S1024x512_0_2048
  | 5 => exact wordsbf16_S1024x4096_S1024x512_0_2560
  | 6 => exact wordsbf16_S1024x4096_S1024x512_0_3072
  | 7 => exact wordsbf16_S1024x4096_S1024x512_0_3584

/-- A chunk of the send buffer is whole words. -/
theorem sC_words (i : Fin 8) : (sC i).view.WordExact := (Memref.isWhole_whole cc0_scratch0).wordExact_slice rfl _ (col_words i)
/-- A chunk of the receive buffer is whole words. -/
theorem rC_words (i : Fin 8) : (rC i).view.WordExact := (Memref.isWhole_whole cc0_scratch1).wordExact_slice rfl _ (col_words i)
/-- A chunk of the result is whole words. -/
theorem oC_words (d : Dev nD) (i : Fin 8) : (oC d i).view.WordExact :=
  (Memref.isWhole_whole cc0_stg2_0).wordExact_slice rfl _ (k0_off4_wordsbf16 d i)

/-- Semaphore `i` of an array of eight. -/
abbrev pick (a : DmaSems sig S8) (i : Fin 8) : DmaSem sig :=
  ((a.slice (Rect.unit (s := S8) ![i.val] S1.size (sem_inb i))).squeeze S_ squeezes_S1_S_).sem

/-- Raised on the sender as chunk `i` of the send buffer leaves. -/
abbrev s1 (i : Fin 8) : DmaSem sig := pick cc0_scratch2 i
/-- Raised on the receiver as chunk `i` of the receive buffer arrives. -/
abbrev r1 (i : Fin 8) : DmaSem sig := pick cc0_scratch3 i
/-- Raised on the sender as chunk `i` of the result leaves. -/
abbrev s2 (i : Fin 8) : DmaSem sig := pick cc0_scratch4 i
/-- Raised on the receiver as chunk `i` of the result arrives. -/
abbrev r2 (i : Fin 8) : DmaSem sig := pick cc0_scratch5 i
/-- The barrier semaphore. -/
abbrev barS : Sem sig := sig.barrier 0 rfl

/-- The neighbour of a device along the first mesh axis. -/
abbrev xp (d : Dev nD) : Dev nD := ⟨k0_dev1 d, k0_dev1_lt d⟩
/-- The neighbour of a device along the second mesh axis. -/
abbrev yp (d : Dev nD) : Dev nD := ⟨k0_dev2 d, k0_dev2_lt d⟩

/-- The product of a transposed tile of `x` with a tile of `dy`, rounded to `bf16`. -/
def tileDot (x : Vec F S2048x1024 .bf16) (y : Vec F S2048x512 .bf16) : FVec F S1024x512 .bf16 :=
  truncf .bf16 (matmul dot_S2048x1024_S2048x512_S1024x512_0_0_1_1_n_n none
    (shapeCast S2048x1024 x shapeCasts_S2048x1024_S2048x1024) (shapeCast S2048x512 y shapeCasts_S2048x512_S2048x512)
    (constant S1024x512 .f32 0x00000000#32)) bitsLt_bf16_f32

/-- The product in the form in which it is stored for sending. -/
def tileSend (x : Vec F S2048x1024 .bf16) (y : Vec F S2048x512 .bf16) : FVec F S1024x512 .bf16 :=
  shapeCast S1024x512 (tileDot x y) shapeCasts_S1024x512_S1024x512

/-- The sum of two tiles, taken in `f32` and rounded to `bf16`. -/
def tileAdd (o r : Vec F S1024x512 .bf16) : FVec F S1024x512 .bf16 :=
  truncf .bf16 (addf (extf .f32 (shapeCast S1024x512 o shapeCasts_S1024x512_S1024x512) bitsLt_bf16_f32)
    (extf .f32 r bitsLt_bf16_f32)) bitsLt_bf16_f32

/-- The program of one thread of the kernel. -/
abbrev P (F : FTy → Type) [FloatOps F] := Prog (TpuEff nD τ sig (Elt F) Λ₀ .tc) PUnit

/-- Load chunk `i` of the columns of `dy`, form the product that the neighbour needs, store it in the send
    buffer and start its copy to the neighbour's receive buffer. -/
def chunk1 (d : Dev nD) (i : Fin 8) : P F := do
  let x ← Prog.lift (.load xM (xsendR d).toLoadRect (View.loadsAt_vmem h_S2048x1024))
  let y ← Prog.lift (.load yM (ycolR i).toLoadRect (View.loadsAt_vmem h_S2048x512))
  let _ ← Prog.lift (.load sM (colR i).toLoadRect (View.loadsAt_vmem h_S1024x512))
  Prog.lift (.store sM (colR i) (tileSend x y) Finset.univ
    (View.stores_vmem h_S1024x512 ((Memref.isWhole_whole cc0_scratch0).storeExact_slice rfl _ (col_packed i)) (fun _ => rfl)) (.inl rfl))
  Prog.lift (.enqueueDma (sC i) (.remote (Dev.tc (xp d)) (rC i) (.dma (s1 i))) (.dma (r1 i))
    (sC_words i) (rC_words i) ⟨⟨rfl, Or.inl rfl⟩, trivial⟩)

/-- Form the product that the device keeps and store it in its own part of the result. -/
def chunk2 (d : Dev nD) (i : Fin 8) : P F := do
  let x ← Prog.lift (.load xM (xkeepR d).toLoadRect (View.loadsAt_vmem h_S2048x1024))
  let y ← Prog.lift (.load yM (ycolR i).toLoadRect (View.loadsAt_vmem h_S2048x512))
  let _ ← Prog.lift (.load oM (outR d i).toLoadRect (View.loadsAt_vmem h_S1024x512))
  Prog.lift (.store oM (outR d i) (tileDot x y) Finset.univ
    (View.stores_vmem h_S1024x512 ((Memref.isWhole_whole cc0_stg2_0).storeExact_slice rfl _ (k0_off3_packedbf16 d i)) (fun _ => rfl)) (.inl rfl))

/-- Wait for the copy of chunk `i` both ways, add the received product to the kept one and start the copy of
    the sum to the neighbour along the second axis. -/
def chunk3 (d : Dev nD) (i : Fin 8) : P F := do
  Prog.lift (.waitDma2 (s1 i) (rC i) (sC i) (rC_words i) (sC_words i))
  Prog.lift (.waitDma2 (r1 i) (sC i) (rC i) (sC_words i) (rC_words i))
  let o ← Prog.lift (.load oM (outR d i).toLoadRect (View.loadsAt_vmem h_S1024x512))
  let r ← Prog.lift (.load rM (colR i).toLoadRect (View.loadsAt_vmem h_S1024x512))
  let _ ← Prog.lift (.load oM (outR d i).toLoadRect (View.loadsAt_vmem h_S1024x512))
  Prog.lift (.store oM (outR d i) (tileAdd o r) Finset.univ
    (View.stores_vmem h_S1024x512 ((Memref.isWhole_whole cc0_stg2_0).storeExact_slice rfl _ (k0_off3_packedbf16 d i)) (fun _ => rfl)) (.inl rfl))
  Prog.lift (.enqueueDma (oC d i) (.remote (Dev.tc (yp d)) (oC d i) (.dma (s2 i))) (.dma (r2 i))
    (oC_words d i) (oC_words d i) ⟨⟨rfl, Or.inl rfl⟩, trivial⟩)

/-- Wait for the copy of chunk `i` of the result both ways. -/
def chunk4 (d : Dev nD) (i : Fin 8) : P F := do
  Prog.lift (.waitDma2 (s2 i) (oC d i) (oC d i) (oC_words d i) (oC_words d i))
  Prog.lift (.waitDma2 (r2 i) (oC d i) (oC d i) (oC_words d i) (oC_words d i))

/-- The prologue: signal both neighbours' barriers and wait for theirs. -/
def barrier (d : Dev nD) : P F := do
  semSignalWord (xp d) barS 1#32
  semSignalWord (yp d) barS 1#32
  semWaitWord barS 2#32

/-- The last `n` of eight steps, in order. -/
def steps (f : Fin 8 → P F) : (n : ℕ) → n ≤ 8 → P F
  | 0, _ => pure ⟨⟩
  | n + 1, h => f ⟨8 - (n + 1), by omega⟩ >>= fun _ => steps f n (by omega)

/-- The whole body at a device. -/
def bodyOf (d : Dev nD) : P F := do
  barrier d
  steps (chunk1 d) 8 (by decide)
  steps (chunk2 d) 8 (by decide)
  steps (chunk3 d) 8 (by decide)
  steps (chunk4 d) 8 (by decide)

/-- Two programs that start with one operation are equal if they continue alike. -/
theorem op_congr {E : Type → Type} {α β : Type} {e e' : E β} {k k' : β → Prog E α} (he : e = e')
    (hk : ∀ x, k x = k' x) : Prog.op e k = Prog.op e' k' := by
  rw [he, funext hk]

set_option maxRecDepth 65536 in
/-- The body as the pipeline calls it is the prologue and the four passes. -/
theorem body_eq (t : Fin cfg0.N) :
    (bodyAt0 t : P F) = (Prog.lift .deviceId >>= bodyOf) := by
  unfold bodyAt0 cc0_body k0_part1 k0_part2 k0_part3 k0_part4 k0_part5 k0_part6 k0_part7 k0_part8 k0_part9 k0_part10
    k0_part11 k0_part12 k0_part13 k0_part14 k0_part15 k0_part16 k0_part17 k0_part18 k0_part19 k0_part20
  simp only [Prog.lift, Prog.bind_op, Prog.bind_ret, Prog.pure_eq_ret, semSignalWord, semWaitWord,
    bodyOf, barrier, steps, chunk1, chunk2, chunk3, chunk4]
  repeat' (refine op_congr rfl (fun _ => ?_))
  all_goals rfl

end Proof
end
-- ==== Proof.Protocol.lean ====
module

public import proofs.«01_k».proof.Proof.Program
public import proofs.«01_k».proof.Proof.Gen.KernelIdeal.Regions
public import Idealize.ShloMosaic.Lib.Pipeline.Kit
public import Idealize.ShloMosaic.Lib.Pipeline.RegionTalk
public import Idealize.ShloMosaic.Lib.Rounds
public import Idealize.ShloMosaic.Lib.Tactic

@[expose] public section

noncomputable section

/-! # The protocol between the devices

Device `d` sits at `(x, y)` of the 2x2 mesh; `xp d` is its neighbour along the first axis, `yp d` along the
second. The semaphores, and what each landing hands over:

* the barrier of `d` is raised once by `xp d` and once by `yp d`, and `d` waits for both. `xp d` hands over its
  receive buffer, chunk by chunk, and that its eight `r1` cells are open; `yp d` hands over the half of its result
  that `d` will fill, and that its eight `r2` cells are open.
* `s1 i` of `d` is raised as chunk `i` of the send buffer leaves; it hands that chunk back.
* `r1 i` of `d` is raised as chunk `i` of `xp d`'s send buffer arrives; it hands over chunk `i` of the receive
  buffer, holding the product that `xp d` formed.
* `s2 i` of `d` is raised as chunk `i` of its half of the result leaves; it hands that chunk back.
* `r2 i` of `d` is raised as chunk `i` of `yp d`'s half arrives; it hands over that chunk of the result, holding
  the sum that `yp d` formed.

Each cell has one round. A device waits first on its barrier, then on its `s1`/`r1` cells, then on its `s2`/`r2`
cells, and what it still owes at each wait is of a later kind. -/

namespace Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## What each chunk holds -/

section Contents
variable (X : Dev nD → Vec F S2048x2048 .bf16) (Y : Dev nD → Vec F S2048x4096 .bf16)

/-- The product that device `d` forms for its neighbour, chunk `i`. -/
def sendVal (d : Dev nD) (i : Fin 8) : Vec F S1024x512 .bf16 :=
  tileSend (fun j => X d ((xsendR d).emb j)) (fun j => Y d ((ycolR i).emb j))
/-- The product that device `d` keeps, chunk `i`. -/
def keepVal (d : Dev nD) (i : Fin 8) : Vec F S1024x512 .bf16 :=
  tileDot (fun j => X d ((xkeepR d).emb j)) (fun j => Y d ((ycolR i).emb j))
/-- The sum that device `d` forms, chunk `i`. -/
def outVal (d : Dev nD) (i : Fin 8) : Vec F S1024x512 .bf16 :=
  tileAdd (keepVal X Y d i) (sendVal X Y (xp d) i)

end Contents

/-! ## Neighbours -/

theorem xp_xp (d : Dev nD) : xp (xp d) = d := by revert d; decide
theorem yp_yp (d : Dev nD) : yp (yp d) = d := by revert d; decide

/-- The devices reindexed by the neighbour along the first axis. -/
def xpE : Dev nD ≃ Dev nD := ⟨xp, xp, xp_xp, xp_xp⟩
/-- The devices reindexed by the neighbour along the second axis. -/
def ypE : Dev nD ≃ Dev nD := ⟨yp, yp, yp_yp, yp_yp⟩

/-! ## Cells -/

/-- The four kinds of copy semaphore, by number: `s1`, `r1`, `s2`, `r2`. -/
def osem (k : Fin 4 × Fin 8) : SemLoc sig :=
  .dma (match k.1 with | 0 => s1 k.2 | 1 => r1 k.2 | 2 => s2 k.2 | 3 => r2 k.2)

/-- What a semaphore is for. -/
inductive Role where
  | bar
  | own (p : Fin 4) (i : Fin 8)
  | other
deriving DecidableEq

/-- The role of a semaphore. -/
def role : SemLoc sig → Role
  | .reg s => if s = barS then .bar else .other
  | .dma q => if 3 ≤ q.val then .own ⟨(q.val - 3) / 8 % 4, Nat.mod_lt _ (by decide)⟩ ⟨(q.val - 3) % 8, Nat.mod_lt _ (by decide)⟩ else .other

theorem role_bar : role (.reg barS) = .bar := by decide
theorem role_osem : ∀ p i, role (osem (p, i)) = .own p i := by decide
theorem osem_inj : Function.Injective osem := by
  rintro ⟨p, i⟩ ⟨p', i'⟩ h
  have h' := congrArg role h
  rw [role_osem, role_osem] at h'
  injection h' with h1 h2
  rw [h1, h2]
theorem osem_ne_bar (k : Fin 4 × Fin 8) : osem k ≠ .reg barS := fun h => by
  have h' := congrArg role h
  rw [role_osem, role_bar] at h'
  cases h'

/-- The barrier cell of a device. -/
abbrev barCell (d : Dev nD) : GSem nD τ sig := ((d : Thread nD τ), .reg barS)
/-- A copy cell of a device. -/
abbrev cell (d : Dev nD) (p : Fin 4) (i : Fin 8) : GSem nD τ sig := ((d : Thread nD τ), osem (p, i))

/-- The credit of one chunk's copy. -/
def N : ℕ := (rC 0).view.dmaCredit

theorem N_pos : 0 < N := by decide
theorem credit_s (i : Fin 8) : (sC i).view.dmaCredit = N := by revert i; decide
theorem credit_r (i : Fin 8) : (rC i).view.dmaCredit = N := by revert i; decide
theorem credit_o (d : Dev nD) (i : Fin 8) : (oC d i).view.dmaCredit = N := by rfl

/-! ## The resource algebra and the schedule -/

/-- The ghost state: the pipeline library's and the protocol's. -/
abbrev UU : Type := URounds (GSem nD τ sig) Unit × URounds (GSem nD τ sig) Bool

local notation "𝕄" => MT nD τ sig Unit (Elt F) ℕ UU ℕ

/-- Where the pipeline library's ghost state lies. -/
abbrev EP : Emb (URounds (GSem nD τ sig) Unit) (MT nD τ sig Unit (Elt F) ℕ UU ℕ) := embL
/-- Where the protocol's ghost state lies. -/
abbrev ER : Emb (URounds (GSem nD τ sig) Bool) (MT nD τ sig Unit (Elt F) ℕ UU ℕ) := embR

/-- Ownership of a memref of device `d` at contents `V`. -/
abbrev at_ {sp : Space} {s : Shape} {e : EltTy} (d : Dev nD) (m : Memref sig .tc sp s e) (V : s.Idx → Elt F e) : sProp 𝕄 :=
  owns (d : Thread nD τ) m fullShare V

/-- Ownership of a memref of device `d`, whatever it holds. -/
abbrev any_ {sp : Space} {s : Shape} {e : EltTy} (d : Dev nD) (m : Memref sig .tc sp s e) : sProp 𝕄 :=
  iprop(∃ V, at_ d m V)

section Sched
variable (X : Dev nD → Vec F S2048x2048 .bf16) (Y : Dev nD → Vec F S2048x4096 .bf16)

/-- What the neighbour along the first axis hands over through the barrier. -/
def barPayX (d : Dev nD) : sProp 𝕄 :=
  iprop((bigSep Finset.univ fun i => any_ (xp d) (rC i)) ∗ bigSep Finset.univ fun i => reached ER (cell (xp d) 1 i) 0)
/-- What the neighbour along the second axis hands over through the barrier. -/
def barPayY (d : Dev nD) : sProp 𝕄 :=
  iprop((bigSep Finset.univ fun i => any_ (yp d) (oC d i)) ∗ bigSep Finset.univ fun i => reached ER (cell (yp d) 3 i) 0)

/-- What a landing on a copy cell hands over. -/
def copyPay (d : Dev nD) (p : Fin 4) (i : Fin 8) : sProp 𝕄 :=
  match p with
  | 0 => at_ d (sC i) (sendVal X Y d i)
  | 1 => at_ d (rC i) (sendVal X Y (xp d) i)
  | 2 => at_ d (oC d i) (outVal X Y d i)
  | 3 => at_ d (oC (yp d) i) (outVal X Y (yp d) i)

/-- What a landing hands over, by the role of its cell and by its duty. -/
def pay (d : Dev nD) : Role → Bool → sProp 𝕄
  | .bar, true => barPayX d
  | .bar, false => barPayY d
  | .own p i, _ => copyPay X Y d p i
  | .other, _ => iprop(emp)

/-- The duties of a role: the barrier is raised twice, a copy cell once. -/
def roleDuties : Role → Finset Bool
  | .bar => {true, false}
  | .own _ _ => {true}
  | .other => ∅

/-- The units of a role's duty. -/
def roleAmount : Role → ℕ
  | .bar => 1
  | _ => N

/-- The schedule: one round per cell. -/
def Rd : Schedule (GSem nD τ sig) Bool 𝕄 where
  duties g r := if r = 0 ∧ g.1.2 = .tc then roleDuties (role g.2) else ∅
  unitless _ := False
  amount g _ _ := roleAmount (role g.2)
  payload g _ b := pay X Y g.1.1 (role g.2) b
  amount_pos g _ _ _ := by
    show 0 < roleAmount (role g.2)
    unfold roleAmount
    split
    · exact Nat.one_pos
    · exact N_pos

instance Rd_storable (g : GSem nD τ sig) (r : ℕ) (b : Bool) :
    BI.Storable (upEmb : UEmb _ 𝕄) ((Rd (F := F) X Y).payload g r b) := by
  show BI.Storable upEmb (pay X Y g.1.1 (role g.2) b)
  unfold pay barPayX barPayY copyPay
  (repeat' split) <;> infer_instance

theorem duties_bar (d : Dev nD) : (Rd (F := F) X Y).duties (barCell d) 0 = {true, false} := by
  show (if (0 : ℕ) = 0 ∧ (d : Thread nD τ).2 = .tc then roleDuties (role (.reg barS)) else ∅) = _
  rw [if_pos ⟨rfl, rfl⟩, role_bar]; rfl
theorem duties_cell (d : Dev nD) (p : Fin 4) (i : Fin 8) : (Rd (F := F) X Y).duties (cell d p i) 0 = {true} := by
  show (if (0 : ℕ) = 0 ∧ (d : Thread nD τ).2 = .tc then roleDuties (role (osem (p, i))) else ∅) = _
  rw [if_pos ⟨rfl, rfl⟩, role_osem]; rfl
theorem duties_later (g : GSem nD τ sig) (r : ℕ) (hr : 1 ≤ r) : (Rd (F := F) X Y).duties g r = ∅ :=
  if_neg fun h => by omega
theorem amount_bar (d : Dev nD) (r : ℕ) (b : Bool) : (Rd (F := F) X Y).amount (barCell d) r b = 1 := by
  show roleAmount (role (.reg barS)) = 1
  rw [role_bar]; rfl
theorem amount_cell (d : Dev nD) (p : Fin 4) (i : Fin 8) (r : ℕ) (b : Bool) : (Rd (F := F) X Y).amount (cell d p i) r b = N := by
  show roleAmount (role (osem (p, i))) = N
  rw [role_osem]; rfl
theorem payload_barX (d : Dev nD) (r : ℕ) : (Rd (F := F) X Y).payload (barCell d) r true = barPayX d := by
  show pay X Y d (role (.reg barS)) true = _
  rw [role_bar]; rfl
theorem payload_barY (d : Dev nD) (r : ℕ) : (Rd (F := F) X Y).payload (barCell d) r false = barPayY d := by
  show pay X Y d (role (.reg barS)) false = _
  rw [role_bar]; rfl
theorem payload_cell (d : Dev nD) (p : Fin 4) (i : Fin 8) (r : ℕ) (b : Bool) :
    (Rd (F := F) X Y).payload (cell d p i) r b = copyPay X Y d p i := by
  show pay X Y d (role (osem (p, i))) b = _
  rw [role_osem]; rfl
theorem expect_bar (d : Dev nD) : (Rd (F := F) X Y).expect (barCell d) 0 = 2 := by
  unfold Schedule.expect Schedule.amountOf
  rw [duties_bar, Finset.sum_congr rfl fun b _ => amount_bar X Y d 0 b]; rfl
theorem expect_cell (d : Dev nD) (p : Fin 4) (i : Fin 8) : (Rd (F := F) X Y).expect (cell d p i) 0 = N := by
  unfold Schedule.expect Schedule.amountOf
  rw [duties_cell, Finset.sum_singleton, amount_cell]

end Sched

/-! ## Levels and debts -/

/-- Every TensorCore cell has the one index. -/
def L (g : GSem nD τ sig) : Finset Unit := if g.1.2 = .tc then {()} else ∅
/-- The level of a role: a wait on a cell is allowed while only cells of higher level are owed. -/
def roleLevel : Role → ℕ
  | .bar => 1
  | .own 1 _ => 2
  | .own 3 _ => 3
  | _ => 0
/-- The level of a cell. -/
def lv (g : GSem nD τ sig) (_ : Unit) : ℕ := roleLevel (role g.2)

theorem L_of_ne (g : GSem nD τ sig) (h : g.1.2 ≠ .tc) : L g = ∅ := if_neg h
theorem L_tc (d : Dev nD) (sm : SemLoc sig) : L ((d : Thread nD τ), sm) = {()} := if_pos rfl

/-- The last `n` of the eight chunks. -/
def rem (n : ℕ) : Finset (Fin 8) := Finset.univ.filter fun i => 8 - n ≤ i.val

theorem rem_zero : rem 0 = ∅ := by decide
theorem rem_eight : rem 8 = Finset.univ := by decide
theorem rem_succ (n : ℕ) (h : n + 1 ≤ 8) : rem (n + 1) = insert (⟨8 - (n + 1), by omega⟩ : Fin 8) (rem n) := by
  ext i
  simp only [rem, Finset.mem_filter, Finset.mem_univ, true_and, Finset.mem_insert, Fin.ext_iff]
  omega
theorem rem_notMem (n : ℕ) (h : n + 1 ≤ 8) : (⟨8 - (n + 1), by omega⟩ : Fin 8) ∉ rem n := by
  simp only [rem, Finset.mem_filter, Finset.mem_univ, true_and]
  omega

/-- The copies of kind `p` onto device `d` that are still to be made. -/
def debt (d : Dev nD) (p : Fin 4) (n : ℕ) : CellTallies nD τ sig Unit := ∑ i ∈ rem n, tallyAt (cell d p i) () N

theorem debt_zero (d : Dev nD) (p : Fin 4) : debt d p 0 = 0 := by unfold debt; rw [rem_zero]; rfl
theorem debt_succ (d : Dev nD) (p : Fin 4) (n : ℕ) (h : n + 1 ≤ 8) :
    debt d p (n + 1) = debt d p n + tallyAt (cell d p ⟨8 - (n + 1), by omega⟩) () N := by
  unfold debt; rw [rem_succ n h, Finset.sum_insert (rem_notMem n h), add_comm]

/-- All copies that device `d` makes. -/
def copies (d : Dev nD) : CellTallies nD τ sig Unit := debt (yp d) 3 8 + debt (xp d) 1 8
/-- All that device `d` owes at launch. -/
def O₀ (d : Dev nD) : CellTallies nD τ sig Unit := (copies d + tallyAt (barCell (yp d)) () 1) + tallyAt (barCell (xp d)) () 1

theorem tally_pos {g g' : GSem nD τ sig} {u u' : Unit} {k : ℕ} (h : 0 < (tallyAt g u k : CellTallies nD τ sig Unit) g' u') : g' = g := by
  rw [tallyAt_apply] at h
  split at h
  · next hg => exact hg.1
  · exact absurd h (Nat.lt_irrefl 0)
theorem debt_pos {d : Dev nD} {p : Fin 4} {n : ℕ} {g : GSem nD τ sig} {u : Unit} (h : 0 < debt d p n g u) : ∃ i, g = cell d p i := by
  unfold debt at h
  rw [Finset.sum_apply, Finsupp.finset_sum_apply] at h
  obtain ⟨i, -, hi⟩ := Finset.exists_ne_zero_of_sum_ne_zero h.ne'
  exact ⟨i, tally_pos (Nat.pos_of_ne_zero hi)⟩
theorem add_pos' {A B : CellTallies nD τ sig Unit} {g : GSem nD τ sig} {u : Unit} (h : 0 < (A + B) g u) : 0 < A g u ∨ 0 < B g u := by
  rw [Pi.add_apply, Finsupp.add_apply] at h
  exact Nat.add_pos_iff_pos_or_pos.mp h

theorem lv_cell (d : Dev nD) (p : Fin 4) (i : Fin 8) (u : Unit) : lv (cell d p i) u = roleLevel (.own p i) := by
  show roleLevel (role (osem (p, i))) = _
  rw [role_osem]
theorem lv_bar (d : Dev nD) (u : Unit) : lv (barCell d) u = 1 := by
  show roleLevel (role (.reg barS)) = _
  rw [role_bar]; rfl

theorem debt_lv {d : Dev nD} {p : Fin 4} {n : ℕ} {g : GSem nD τ sig} {u : Unit} (h : 0 < debt d p n g u) :
    u ∈ L g ∧ ∃ i, lv g u = roleLevel (.own p i) := by
  obtain ⟨i, rfl⟩ := debt_pos h
  exact ⟨by rw [L_tc]; exact Finset.mem_singleton_self _, i, lv_cell d p i u⟩
theorem copies_lv {d : Dev nD} {g : GSem nD τ sig} {u : Unit} (h : 0 < copies d g u) : u ∈ L g ∧ 1 < lv g u := by
  rcases add_pos' h with h | h
  · obtain ⟨hL, i, hi⟩ := debt_lv h
    exact ⟨hL, by rw [hi]; show 1 < 3; decide⟩
  · obtain ⟨hL, i, hi⟩ := debt_lv h
    exact ⟨hL, by rw [hi]; show 1 < 2; decide⟩
theorem O₀_lv {d : Dev nD} {g : GSem nD τ sig} {u : Unit} (h : 0 < O₀ d g u) : u ∈ L g ∧ 0 < lv g u := by
  rcases add_pos' h with h | h
  · rcases add_pos' h with h | h
    · exact ⟨(copies_lv h).1, by have := (copies_lv h).2; omega⟩
    · rw [tally_pos h]; exact ⟨by rw [L_tc]; exact Finset.mem_singleton_self _, by rw [lv_bar]; decide⟩
  · rw [tally_pos h]; exact ⟨by rw [L_tc]; exact Finset.mem_singleton_self _, by rw [lv_bar]; decide⟩

/-- A device that owes only cells above a level may wait on a cell of that level. -/
theorem mayWait_cut (d : Dev nD) (sm : SemLoc sig) (b : ℕ) (O : CellTallies nD τ sig Unit)
    (hs : lv ((d : Thread nD τ), sm) () ≤ b) (hO : ∀ g u, 0 < O g u → u ∈ L g ∧ b < lv g u) :
    (levAts L lv : sProp 𝕄) ⊢ MayWait (d : Thread nD τ) sm () O :=
  MayOwe.of_cut (L := L) (lev := lv) b (fun p hp => by rw [Finset.mem_singleton.mp hp, L_tc]; exact Finset.mem_singleton_self _)
    (fun g u hg => (hO g u hg).1) (fun p hp => by rw [Finset.mem_singleton.mp hp]; exact hs) (fun g u hg => (hO g u hg).2)

/-- The barrier wait: only copies are owed. -/
theorem mayWait_bar (d : Dev nD) : (levAts L lv : sProp 𝕄) ⊢ MayWait (d : Thread nD τ) (.reg barS) () (copies d) :=
  mayWait_cut d _ 1 _ (le_of_eq (lv_bar d ())) fun g u h => copies_lv h

/-- The waits of the third pass: only copies of the second kind are owed. -/
theorem mayWait_first (d : Dev nD) (p : Fin 4) (hp : p = 0 ∨ p = 1) (i : Fin 8) (n : ℕ) :
    (levAts L lv : sProp 𝕄) ⊢ MayWait (d : Thread nD τ) (osem (p, i)) () (debt (yp d) 3 n) :=
  mayWait_cut d _ 2 _ (by
    rw [show lv ((d : Thread nD τ), osem (p, i)) () = _ from lv_cell d p i ()]
    rcases hp with rfl | rfl
    · show 0 ≤ 2; decide
    · show 2 ≤ 2; decide)
    fun g u h => by
      obtain ⟨hL, j, hj⟩ := debt_lv h
      exact ⟨hL, by rw [hj]; show 2 < 3; decide⟩

/-! ## The launch credit -/

/-- At launch a device holds the credit of every landing it will wait for. -/
theorem creds (d : Dev nD) : (Pipeline.launchCred O₀ d : sProp 𝕄) ⊢
    iprop((cred (tallyAt (barCell d) () 1) ∗ cred (tallyAt (barCell d) () 1))
      ∗ (bigSep Finset.univ fun i => cred (tallyAt (cell d 1 i) () N)) ∗ bigSep Finset.univ fun i => cred (tallyAt (cell d 3 i) () N)) := by
  unfold O₀ copies debt
  rw [Pipeline.launchCred_add, Pipeline.launchCred_add, Pipeline.launchCred_add, Pipeline.launchCred_sum, Pipeline.launchCred_sum, rem_eight]
  iintro ⟨⟨⟨H3, H1⟩, HY⟩, HX⟩
  isplitl [HX HY]
  · isplitl [HX]
    · iapply (Pipeline.launchCred_tallyAt (.reg barS) xp xp xp_xp xp_xp () 1 d); iexact HX
    · iapply (Pipeline.launchCred_tallyAt (.reg barS) yp yp yp_yp yp_yp () 1 d); iexact HY
  isplitl [H1]
  · iapply (show (bigSep Finset.univ fun i : Fin 8 => (Pipeline.launchCred (fun c => tallyAt (cell (xp c) 1 i) () N) d : sProp 𝕄)) ⊢ bigSep Finset.univ fun i => cred (tallyAt (cell d 1 i) () N) from
      bigSep_mono fun i _ => Pipeline.launchCred_tallyAt (osem (1, i)) xp xp xp_xp xp_xp () N d); iexact H1
  · iapply (show (bigSep Finset.univ fun i : Fin 8 => (Pipeline.launchCred (fun c => tallyAt (cell (yp c) 3 i) () N) d : sProp 𝕄)) ⊢ bigSep Finset.univ fun i => cred (tallyAt (cell d 3 i) () N) from
      bigSep_mono fun i _ => Pipeline.launchCred_tallyAt (osem (3, i)) yp yp yp_yp yp_yp () N d); iexact H3

end Proof
end
-- ==== Proof.Owns.lean ====
module

public import proofs.«01_k».proof.Proof.Protocol

@[expose] public section

noncomputable section

/-! # Loads, stores, waits and passes at the level of the protocol

Rules for one operation of the kernel, stated with `owns` of a memref or of a chunk of it, and the rule for a
pass over the eight chunks. -/

namespace Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop of the kernel takes a variant. -/
abbrev 𝒱₀ : Variants := Variants.none

/-- The weakest precondition of a program on the TensorCore of device `d`. -/
abbrev wpd (d : Dev nD) {α : Type} (p : Prog (TpuEff nD τ sig (Elt F) Λ₀ .tc) α) (Q : α → sProp 𝕄) : sProp 𝕄 :=
  wp frame (wpE (defs₀ (F := F)) 𝒱₀ (d : Thread nD τ) none) Set.univ p Q

section Mem
variable {α : Type} {cs : CoreSpace} {s : Shape} {e : EltTy} (d : Dev nD) (m : Memref sig .tc cs s e) (r : Rect s)
  (hr : ∀ a, r.stride a = 1)

/-- A load through a rectangle of an owned memref reads the part of its contents. -/
theorem load_part {hl : m.view.LoadsAt r.toLoadRect} {k : (r.shape.Idx → Elt F e) → Prog (TpuEff nD τ sig (Elt F) Λ₀ .tc) α}
    {Q : α → sProp 𝕄} (V : s.Idx → Elt F e) :
    (at_ d m V : sProp 𝕄) ⊢ iprop((at_ d m V -∗ wpd d (k (fun j => V (r.emb j))) Q) -∗ wpd d (.op (.load m r.toLoadRect hl) k) Q) := by
  have hS : (m.access r).set ⊆ m.view.set := m.view.set_slice_subset r
  unfold at_ owns wpd
  iintro ⟨%f, %hf, H⟩ Hk
  iapply (wp_load_rect 𝒱₀ (d : Thread nD τ) none Set.univ (m := m) (r := r) (S := m.view.set) (f := f) hS) $$ H
  iintro H
  rw [← hf]
  iapply Hk
  iexists f
  isplitr
  · ipureintro; rfl
  iexact H

/-- A load of an owned chunk reads the chunk. -/
theorem load_chunk {hl : m.view.LoadsAt r.toLoadRect} {k : (r.shape.Idx → Elt F e) → Prog (TpuEff nD τ sig (Elt F) Λ₀ .tc) α}
    {Q : α → sProp 𝕄} (V : r.shape.Idx → Elt F e) :
    (at_ d (m.slice r hr) V : sProp 𝕄) ⊢ iprop((at_ d (m.slice r hr) V -∗ wpd d (k V) Q) -∗ wpd d (.op (.load m r.toLoadRect hl) k) Q) := by
  unfold at_ owns wpd
  iintro ⟨%f, %hf, H⟩ Hk
  iapply (wp_load_rect 𝒱₀ (d : Thread nD τ) none Set.univ (S := (m.slice r hr).view.set) (f := f) (Finset.Subset.refl _)) $$ H
  iintro H
  rw [show (m.access r).read (Elt F) f = V from hf]
  iapply Hk
  iexists f
  isplitr
  · ipureintro; exact hf
  · iexact H

/-- A store over an owned chunk leaves what is stored. -/
theorem store_chunk {w : r.shape.Idx → Elt F e} {hx : (m.access r).Stores Finset.univ} {hm : Finset.univ = Finset.univ ∨ ∀ a, r.stride a = 1}
    {k : PUnit → Prog (TpuEff nD τ sig (Elt F) Λ₀ .tc) α} {Q : α → sProp 𝕄} (V : r.shape.Idx → Elt F e) :
    (at_ d (m.slice r hr) V : sProp 𝕄)
      ⊢ iprop((at_ d (m.slice r hr) w -∗ wpd d (k ⟨⟩) Q) -∗ wpd d (.op (.store m r w Finset.univ hx hm) k) Q) := by
  unfold at_ owns wpd
  iintro ⟨%f, %hf, H⟩ Hk
  iapply (wp_store 𝒱₀ (d : Thread nD τ) none Set.univ (S := (m.slice r hr).view.set) (f := f) (View.setOn_subset_set _ _)) $$ H
  iintro H
  iapply Hk
  iexists _
  isplitr
  · ipureintro; exact View.read_write_univ f w
  · iexact H

end Mem

/-! ## A wait on a copy cell -/

section Wait
variable (X : Dev nD → Vec F S2048x2048 .bf16) (Y : Dev nD → Vec F S2048x4096 .bf16)

/-- The invariants of all the cells of all devices, under one map of names. -/
def invs (K : GSem nD τ sig → ℕ) : sProp 𝕄 :=
  iprop((bigSep Finset.univ fun d : Dev nD => cellInv ER (Rd X Y) (K (barCell d)) (barCell d))
    ∗ bigSep Finset.univ fun dk : Dev nD × Fin 4 × Fin 8 => cellInv ER (Rd X Y) (K (cell dk.1 dk.2.1 dk.2.2)) (cell dk.1 dk.2.1 dk.2.2))

instance invs_persistent (K : GSem nD τ sig → ℕ) : BI.Persistent (invs (F := F) X Y K) := by unfold invs; infer_instance

theorem inv_bar (K : GSem nD τ sig → ℕ) (d : Dev nD) : (invs X Y K : sProp 𝕄) ⊢ cellInv ER (Rd X Y) (K (barCell d)) (barCell d) := by
  have h : (bigSep Finset.univ fun d : Dev nD => (cellInv ER (Rd X Y) (K (barCell d)) (barCell d) : sProp 𝕄))
      ⊢ cellInv ER (Rd X Y) (K (barCell d)) (barCell d) := bigSep_elim (Finset.mem_univ d)
  unfold invs
  iintro ⟨H, -⟩
  iapply h; iexact H

theorem inv_cell (K : GSem nD τ sig → ℕ) (d : Dev nD) (p : Fin 4) (i : Fin 8) :
    (invs X Y K : sProp 𝕄) ⊢ cellInv ER (Rd X Y) (K (cell d p i)) (cell d p i) := by
  have h : (bigSep Finset.univ fun dk : Dev nD × Fin 4 × Fin 8 =>
      (cellInv ER (Rd X Y) (K (cell dk.1 dk.2.1 dk.2.2)) (cell dk.1 dk.2.1 dk.2.2) : sProp 𝕄))
      ⊢ cellInv ER (Rd X Y) (K (cell d p i)) (cell d p i) := bigSep_elim (Finset.mem_univ (d, p, i))
  unfold invs
  iintro ⟨-, H⟩
  iapply h; iexact H

/-- A cell whose round is over gives back its counter, at zero. -/
theorem close_cell (K : GSem nD τ sig → ℕ) (g : GSem nD τ sig) :
    iprop(cellInv ER (Rd X Y) (K g) g ∗ atPos ER g 1 ∅ 0) ⊢ (|={Set.univ}=> semVal g 0 : sProp 𝕄) :=
  Rounds.cell_close ER (Rd X Y) (Set.mem_univ (K g)) id (fun r hr => duties_later X Y g r hr)

/-- The wait on a copy cell: the chunk that the landing hands over is received, and the counter is back at zero. -/
theorem wait_copy {α : Type} {Q : α → sProp 𝕄} {k : PUnit → Prog (TpuEff nD τ sig (Elt F) Λ₀ .tc) α}
    (K : GSem nD τ sig → ℕ) (d : Dev nD) (p : Fin 4) (i : Fin 8) {q : DmaSem sig} (hq : .dma q = osem (p, i))
    {src : Memref sig .tc .vmem S1024x512 .bf16} {dst : Memref sig .tc .vmem S1024x512 .bf16} {hsrc : src.view.WordExact}
    {hdst : dst.view.WordExact} (hN : dst.view.dmaCredit = N) (O : CellTallies nD τ sig Unit) (W : Waits sig Unit)
    (hO : (levAts L lv : sProp 𝕄) ⊢ MayWait (d : Thread nD τ) (osem (p, i)) () O) :
    iprop(invs X Y K ∗ levAts L lv ∗ cred (tallyAt (cell d p i) () N) ∗ owes (d : Thread nD τ) O W ∗ atPos ER (cell d p i) 0 ∅ 0)
      ⊢ iprop(((∃ W', owes (d : Thread nD τ) O W') ∗ copyPay X Y d p i ∗ semVal (cell d p i) 0 -∗ wpd d (k ⟨⟩) Q)
          -∗ wpd d (.op (.waitDma2 q src dst hsrc hdst) k) Q) := by
  have hcell : cell d p i = ((d : Thread nD τ), .dma q) := by rw [hq]
  iintro ⟨#HI, #Hlev, Hc, HO, Hat⟩ Hk
  ihave #HIc := (inv_cell X Y K d p i) $$ HI
  iapply (Rounds.wp_wait_rest_token 𝒱₀ ER (Rd X Y) (d : Thread nD τ) none (sm := .dma q) (κ := K (cell d p i))
      (wpE_waitDma2_eq 𝒱₀ (d : Thread nD τ) none Set.univ) (Set.mem_univ _) () (O := O) (W := W) (R := 0) (m := 0) (T := ∅)
      (by rw [← hcell, expect_cell, hN, Nat.zero_add])) $$ [Hc HO Hat]
  · rw [hN, ← hcell]
    isplitr; · iexact HIc
    isplitl [Hc]; · iexact Hc
    isplitl [HO]; · iexact HO
    isplitr; · rw [hq]; iapply hO; iexact Hlev
    iexact Hat
  rw [← hcell]
  iintro ⟨HO, Hat, -, Hpay⟩
  ihave Hp := (Entails.of_eq (show (bigSep ((Rd X Y).duties (cell d p i) 0 \ ∅) fun b => (Rd X Y).payload (cell d p i) 0 b : sProp 𝕄) = copyPay X Y d p i by
    rw [duties_cell, Finset.sdiff_empty, bigSep_singleton, payload_cell])) $$ Hpay
  iapply (fupd_wp frame (wpE (defs₀ (F := F)) 𝒱₀ (d : Thread nD τ) none) Set.univ (k ⟨⟩) Q)
  imod (close_cell X Y K (cell d p i)) $$ [Hat] with Hs
  · isplitr; · iexact HIc
    iexact Hat
  imodintro
  iapply Hk
  isplitl [HO]; · iexists _; iexact HO
  isplitl [Hp] <;> iassumption

end Wait

/-! ## A pass -/

/-- What is held for the last `n + 1` chunks is what is held for the first of them and for the rest. -/
theorem bigSep_rem (n : ℕ) (hn : n + 1 ≤ 8) (A : Fin 8 → sProp 𝕄) :
    bigSep (rem (n + 1)) A = iprop(A ⟨8 - (n + 1), by omega⟩ ∗ bigSep (rem n) A) := by
  rw [rem_succ n hn, bigSep_insert (rem_notMem n hn)]; rfl

/-- A pass over the last `n` chunks: each step turns what it is given for its chunk, and the state of the pass, into
    what it leaves for its chunk, and the state after it. -/
theorem wp_steps (d : Dev nD) (f : Fin 8 → P F) (A B : Fin 8 → sProp 𝕄) (I : ℕ → sProp 𝕄)
    (h : ∀ (n : ℕ) (hn : n + 1 ≤ 8), iprop(A ⟨8 - (n + 1), by omega⟩ ∗ I (n + 1))
      ⊢ wpd d (f ⟨8 - (n + 1), by omega⟩) (fun _ => iprop(B ⟨8 - (n + 1), by omega⟩ ∗ I n)))
    (n : ℕ) (hn : n ≤ 8) :
    iprop(bigSep (rem n) A ∗ I n) ⊢ wpd d (steps f n hn) (fun _ => iprop(bigSep (rem n) B ∗ I 0)) := by
  induction n with
  | zero =>
    rw [rem_zero, BI.bigSep_empty, BI.bigSep_empty]
    exact le_wp_ret frame (wpE (defs₀ (F := F)) 𝒱₀ (d : Thread nD τ) none) Set.univ PUnit.unit
      (fun _ => iprop(emp ∗ I 0))
  | succ n ih =>
    rw [bigSep_rem n hn A, bigSep_rem n hn B]
    unfold steps wpd
    rw [wp_bind]
    iintro ⟨⟨HA, HR⟩, HI⟩
    iapply (wp_wand_r frame (wpE (defs₀ (F := F)) 𝒱₀ (d : Thread nD τ) none) Set.univ)
    isplitl [HA HI]
    · iapply (h n hn)
      isplitl [HA] <;> iassumption
    iintro %_ ⟨HB, HI⟩
    iapply (wp_wand_r frame (wpE (defs₀ (F := F)) 𝒱₀ (d : Thread nD τ) none) Set.univ)
    isplitl [HR HI]
    · iapply (ih (Nat.le_of_succ_le hn))
      isplitl [HR] <;> iassumption
    iintro %_ ⟨HBs, HI⟩
    isplitl [HB HBs]
    · isplitl [HB] <;> iassumption
    iexact HI

/-- A whole pass. -/
theorem wp_pass (d : Dev nD) (f : Fin 8 → P F) (A B : Fin 8 → sProp 𝕄) (I : ℕ → sProp 𝕄)
    (h : ∀ (n : ℕ) (hn : n + 1 ≤ 8), iprop(A ⟨8 - (n + 1), by omega⟩ ∗ I (n + 1))
      ⊢ wpd d (f ⟨8 - (n + 1), by omega⟩) (fun _ => iprop(B ⟨8 - (n + 1), by omega⟩ ∗ I n))) (hn : 8 ≤ 8) :
    iprop(bigSep Finset.univ A ∗ I 8) ⊢ wpd d (steps f 8 hn) (fun _ => iprop(bigSep Finset.univ B ∗ I 0)) := by
  have := wp_steps d f A B I h 8 hn
  rwa [rem_eight] at this

end Proof
end
-- ==== Proof.Body.lean ====
module

public import proofs.«01_k».proof.Proof.Owns

@[expose] public section

noncomputable section

/-! # The body of the kernel on one device

One theorem per short program, each at any device and any chunk; then the four passes, the barrier, and the whole
body. -/

namespace Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x2048 .bf16) (Y : Dev nD → Vec F S2048x4096 .bf16)

/-- A copy of a chunk from device `d` to device `d'`: it takes the chunk on both sides, pays the two landings, and
    leaves the credit of the landing at the sender. -/
theorem send_copy {α : Type} {Q : α → sProp 𝕄} {k : PUnit → Prog (TpuEff nD τ sig (Elt F) Λ₀ .tc) α}
    (K : GSem nD τ sig → ℕ) (d d' : Dev nD) (p p' : Fin 4) (i : Fin 8) {q q' : DmaSem sig} (hq : .dma q = osem (p, i))
    (hq' : .dma q' = osem (p', i)) {src dst : Memref sig .tc .vmem S1024x512 .bf16} {hsc : dst.view.ref.isScScratch = false}
    {hsrc : src.view.WordExact} {hdst : dst.view.WordExact}
    {hsem : DmaTarget.Typed .vmem (.dma q') (.remote (Dev.tc d' : Thread nD τ) dst (.dma q) hsc)}
    (V : Vec F S1024x512 .bf16) (hN : dst.view.dmaCredit = N)
    (hp : (at_ d src V : sProp 𝕄) ⊢ copyPay X Y d p i) (hp' : (at_ d' dst V : sProp 𝕄) ⊢ copyPay X Y d' p' i)
    (O : CellTallies nD τ sig Unit) (W : Waits sig Unit) :
    iprop(invs X Y K ∗ at_ d src V ∗ any_ d' dst ∗ owes (d : Thread nD τ) (O + tallyAt (cell d' p' i) () N) W
        ∗ dutyTok ER (cell d p i) 0 true ∗ reached ER (cell d p i) 0 ∗ dutyTok ER (cell d' p' i) 0 true ∗ reached ER (cell d' p' i) 0)
      ⊢ iprop(((cred (tallyAt (cell d p i) () N) ∗ owes (d : Thread nD τ) O W) -∗ wpd d (k ⟨⟩) Q)
          -∗ wpd d (.op (.enqueueDma src (.remote (Dev.tc d' : Thread nD τ) dst (.dma q) hsc) (.dma q') hsrc hdst hsem) k) Q) := by
  have hc : cell d p i = ((d : Thread nD τ), .dma q) := by rw [hq]
  have hc' : cell d' p' i = ((d' : Thread nD τ), .dma q') := by rw [hq']
  unfold at_ owns at hp hp'
  unfold any_ at_ owns wpd
  iintro ⟨#HI, ⟨%fs, %hfs, Hs⟩, ⟨%V', %fd, %hfd, Hd⟩, HO, Ht, Hr, Ht', Hr'⟩ Hk
  ihave #HIc := (inv_cell X Y K d p i) $$ HI
  ihave #HIc' := (inv_cell X Y K d' p' i) $$ HI
  have h1 : ((src.view.loc (d : Thread nD τ)) ↦[src.view.set]{fullShare} fs : sProp 𝕄) ⊢ (Rd X Y).payload (cell d p i) 0 true := by
    rw [payload_cell]
    iintro H
    iapply hp
    iexists fs
    isplitr
    · ipureintro; exact hfs
    iexact H
  have h2 : ((dst.view.loc (d' : Thread nD τ)) ↦[dst.view.set]{fullShare} (dst.view.write (Elt F) fd (src.view.read (Elt F) fs) Finset.univ) : sProp 𝕄)
      ⊢ (Rd X Y).payload (cell d' p' i) 0 true := by
    rw [payload_cell]
    iintro H
    iapply hp'
    iexists (dst.view.write (Elt F) fd (src.view.read (Elt F) fs) Finset.univ)
    isplitr
    · ipureintro; exact (View.read_write_univ _ _).trans hfs
    iexact H
  have a1 := amount_cell X Y d p i 0 true
  have a2 := amount_cell X Y d' p' i 0 true
  have d1 : true ∈ (Rd (F := F) X Y).duties (cell d p i) 0 := by rw [duties_cell]; exact Finset.mem_singleton_self _
  have d2 : true ∈ (Rd (F := F) X Y).duties (cell d' p' i) 0 := by rw [duties_cell]; exact Finset.mem_singleton_self _
  rw [hc] at h1 a1 d1
  rw [hc'] at h2 a2 d2
  iapply (Rounds.wp_send_pointsTo 𝒱₀ ER (Rd X Y) (d : Thread nD τ) none (c' := (d' : Thread nD τ)) (src := src) (dst := dst)
    (sS := .dma q) (sem := .dma q') (q := fullShare) (fs := fs) (fd := fd) (κ₁ := K (cell d p i)) (κ₂ := K (cell d' p' i))
    (r₁ := 0) (r₂ := 0) (d₁ := true) (d₂ := true) d1 d2 () () N hN a1 a2 O rfl (W := W) h1 h2) $$ [Hs Hd HO Ht Hr Ht' Hr']
  · rw [← hc, ← hc']
    isplitr; · iexact HIc
    isplitr; · iexact HIc'
    isplitl [Hs]; · iexact Hs
    isplitl [Hd]; · iexact Hd
    isplitl [HO]; · iexact HO
    isplitl [Ht]; · iexact Ht
    isplitl [Hr]; · iexact Hr
    isplitl [Ht']; · iexact Ht'
    iexact Hr'
  rw [← hc]
  iexact Hk

theorem copyPay_0 (d : Dev nD) (i : Fin 8) : (copyPay X Y d 0 i : sProp 𝕄) ⊢ at_ d (sC i) (sendVal X Y d i) := .rfl
theorem copyPay_1 (d : Dev nD) (i : Fin 8) : (copyPay X Y d 1 i : sProp 𝕄) ⊢ at_ d (rC i) (sendVal X Y (xp d) i) := .rfl
theorem copyPay_2 (d : Dev nD) (i : Fin 8) : (copyPay X Y d 2 i : sProp 𝕄) ⊢ at_ d (oC d i) (outVal X Y d i) := .rfl
theorem copyPay_3 (d : Dev nD) (i : Fin 8) : (copyPay X Y d 3 i : sProp 𝕄) ⊢ at_ d (oC (yp d) i) (outVal X Y (yp d) i) := .rfl

/-! ## The four short programs -/

/-- What the first pass takes for chunk `i`. -/
def A1 (d : Dev nD) (i : Fin 8) : sProp 𝕄 :=
  iprop(any_ d (sC i) ∗ any_ (xp d) (rC i) ∗ dutyTok ER (cell d 0 i) 0 true ∗ reached ER (cell d 0 i) 0
    ∗ dutyTok ER (cell (xp d) 1 i) 0 true ∗ reached ER (cell (xp d) 1 i) 0)
/-- What the first pass leaves for chunk `i`. -/
def B1 (d : Dev nD) (i : Fin 8) : sProp 𝕄 := cred (tallyAt (cell d 0 i) () N)
/-- The state of the first pass with `n` chunks to go. -/
def I1 (K : GSem nD τ sig → ℕ) (d : Dev nD) (n : ℕ) : sProp 𝕄 :=
  iprop(invs X Y K ∗ at_ d xM (X d) ∗ at_ d yM (Y d) ∗ ∃ W, owes (d : Thread nD τ) (debt (yp d) 3 8 + debt (xp d) 1 n) W)

theorem chunk1_ok (K : GSem nD τ sig → ℕ) (d : Dev nD) (n : ℕ) (hn : n + 1 ≤ 8) :
    iprop(A1 d ⟨8 - (n + 1), by omega⟩ ∗ I1 X Y K d (n + 1))
      ⊢ (wpd d (chunk1 d ⟨8 - (n + 1), by omega⟩) (fun _ => iprop(B1 d ⟨8 - (n + 1), by omega⟩ ∗ I1 X Y K d n)) : sProp 𝕄) := by
  unfold I1
  rw [debt_succ _ _ n hn, ← add_assoc]
  generalize (⟨8 - (n + 1), by omega⟩ : Fin 8) = i
  unfold A1 B1 chunk1
  simp only [Prog.lift, Prog.bind_op, Prog.bind_ret]
  iintro ⟨⟨⟨%V, Hs⟩, Hr, Ht, Hre, Ht', Hre'⟩, #HI, Hx, Hy, ⟨%W, HO⟩⟩
  iapply (load_part d xM (xsendR d) (X d)) $$ Hx
  iintro Hx
  iapply (load_part d yM (ycolR i) (Y d)) $$ Hy
  iintro Hy
  iapply (load_chunk d sM (colR i) (fun _ => rfl) V) $$ Hs
  iintro Hs
  iapply (store_chunk d sM (colR i) (fun _ => rfl) V) $$ Hs
  iintro Hs
  iapply (send_copy X Y K d (xp d) 0 1 i rfl rfl (sendVal X Y d i) (credit_r i) .rfl
    (by unfold copyPay; rw [xp_xp]) (debt (yp d) 3 8 + debt (xp d) 1 n) W) $$ [Hs Hr HO Ht Hre Ht' Hre']
  · isplitr; · iexact HI
    isplitl [Hs]; · iexact Hs
    isplitl [Hr]; · iexact Hr
    isplitl [HO]; · iexact HO
    isplitl [Ht]; · iexact Ht
    isplitl [Hre]; · iexact Hre
    isplitl [Ht']; · iexact Ht'
    iexact Hre'
  iintro ⟨Hc, HO⟩
  iapply (le_wp_ret frame (wpE (defs₀ (F := F)) 𝒱₀ (d : Thread nD τ) none) Set.univ PUnit.unit _)
  isplitl [Hc]; · iexact Hc
  isplitr; · iexact HI
  isplitl [Hx]; · iexact Hx
  isplitl [Hy]; · iexact Hy
  iexists W; iexact HO

/-- What the second pass takes for chunk `i`. -/
def A2 (d : Dev nD) (i : Fin 8) : sProp 𝕄 := any_ d (oC d i)
/-- What the second pass leaves for chunk `i`. -/
def B2 (d : Dev nD) (i : Fin 8) : sProp 𝕄 := at_ d (oC d i) (keepVal X Y d i)
/-- The state of the second pass. -/
def I2 (d : Dev nD) (_ : ℕ) : sProp 𝕄 := iprop(at_ d xM (X d) ∗ at_ d yM (Y d))

theorem chunk2_ok (d : Dev nD) (n : ℕ) (i : Fin 8) :
    iprop(A2 d i ∗ I2 X Y d (n + 1)) ⊢ (wpd d (chunk2 d i) (fun _ => iprop(B2 X Y d i ∗ I2 X Y d n)) : sProp 𝕄) := by
  unfold I2 A2 B2 chunk2
  simp only [Prog.lift, Prog.bind_op, Prog.bind_ret]
  iintro ⟨⟨%V, Ho⟩, Hx, Hy⟩
  iapply (load_part d xM (xkeepR d) (X d)) $$ Hx
  iintro Hx
  iapply (load_part d yM (ycolR i) (Y d)) $$ Hy
  iintro Hy
  iapply (load_chunk d oM (outR d i) (fun _ => rfl) V) $$ Ho
  iintro Ho
  iapply (store_chunk d oM (outR d i) (fun _ => rfl) V) $$ Ho
  iintro Ho
  iapply (le_wp_ret frame (wpE (defs₀ (F := F)) 𝒱₀ (d : Thread nD τ) none) Set.univ PUnit.unit _)
  isplitl [Ho]; · iexact Ho
  isplitl [Hx]; · iexact Hx
  iexact Hy

/-- What the third pass takes for chunk `i`. -/
def A3 (d : Dev nD) (i : Fin 8) : sProp 𝕄 :=
  iprop((cred (tallyAt (cell d 0 i) () N) ∗ atPos ER (cell d 0 i) 0 ∅ 0) ∗ (cred (tallyAt (cell d 1 i) () N) ∗ atPos ER (cell d 1 i) 0 ∅ 0)
    ∗ at_ d (oC d i) (keepVal X Y d i) ∗ any_ (yp d) (oC d i) ∗ dutyTok ER (cell d 2 i) 0 true ∗ reached ER (cell d 2 i) 0
    ∗ dutyTok ER (cell (yp d) 3 i) 0 true ∗ reached ER (cell (yp d) 3 i) 0)
/-- What the third pass leaves for chunk `i`. -/
def B3 (d : Dev nD) (i : Fin 8) : sProp 𝕄 :=
  iprop(cred (tallyAt (cell d 2 i) () N) ∗ (semVal (cell d 0 i) 0 ∗ semVal (cell d 1 i) 0) ∗ any_ d (sC i) ∗ any_ d (rC i))
/-- The state of the third pass with `n` chunks to go. -/
def I3 (K : GSem nD τ sig → ℕ) (d : Dev nD) (n : ℕ) : sProp 𝕄 :=
  iprop(invs X Y K ∗ levAts L lv ∗ ∃ W, owes (d : Thread nD τ) (debt (yp d) 3 n) W)

theorem chunk3_ok (K : GSem nD τ sig → ℕ) (d : Dev nD) (n : ℕ) (hn : n + 1 ≤ 8) :
    iprop(A3 X Y d ⟨8 - (n + 1), by omega⟩ ∗ I3 X Y K d (n + 1))
      ⊢ (wpd d (chunk3 d ⟨8 - (n + 1), by omega⟩) (fun _ => iprop(B3 d ⟨8 - (n + 1), by omega⟩ ∗ I3 X Y K d n)) : sProp 𝕄) := by
  have hd := debt_succ (yp d) 3 n hn
  unfold I3
  generalize (⟨8 - (n + 1), by omega⟩ : Fin 8) = i at hd ⊢
  unfold A3 B3 chunk3
  simp only [Prog.lift, Prog.bind_op, Prog.bind_ret]
  iintro ⟨⟨⟨Hc0, Ha0⟩, ⟨Hc1, Ha1⟩, Ho, Hd, Ht, Hre, Ht', Hre'⟩, #HI, #Hlev, ⟨%W, HO⟩⟩
  iapply (wait_copy X Y K d 0 i rfl (credit_s i) (debt (yp d) 3 (n + 1)) W (mayWait_first d 0 (.inl rfl) i (n + 1))) $$ [Hc0 HO Ha0]
  · isplitr; · iexact HI
    isplitr; · iexact Hlev
    isplitl [Hc0]; · iexact Hc0
    isplitl [HO]; · iexact HO
    iexact Ha0
  iintro ⟨⟨%W1, HO⟩, Hs, Hv0⟩
  iapply (wait_copy X Y K d 1 i rfl (credit_r i) (debt (yp d) 3 (n + 1)) W1 (mayWait_first d 1 (.inr rfl) i (n + 1))) $$ [Hc1 HO Ha1]
  · isplitr; · iexact HI
    isplitr; · iexact Hlev
    isplitl [Hc1]; · iexact Hc1
    isplitl [HO]; · iexact HO
    iexact Ha1
  iintro ⟨⟨%W2, HO⟩, Hr, Hv1⟩
  ihave Hr := (copyPay_1 X Y d i) $$ Hr
  ihave Hs := (copyPay_0 X Y d i) $$ Hs
  iapply (load_chunk d oM (outR d i) (fun _ => rfl) (keepVal X Y d i)) $$ Ho
  iintro Ho
  iapply (load_chunk d rM (colR i) (fun _ => rfl) (sendVal X Y (xp d) i)) $$ Hr
  iintro Hr
  iapply (load_chunk d oM (outR d i) (fun _ => rfl) (keepVal X Y d i)) $$ Ho
  iintro Ho
  iapply (store_chunk d oM (outR d i) (fun _ => rfl) (keepVal X Y d i)) $$ Ho
  iintro Ho
  rw [hd]
  iapply (send_copy X Y K d (yp d) 2 3 i rfl rfl (outVal X Y d i) (credit_o d i) .rfl
    (by unfold copyPay; rw [yp_yp]) (debt (yp d) 3 n) W2) $$ [Ho Hd HO Ht Hre Ht' Hre']
  · isplitr; · iexact HI
    isplitl [Ho]; · iexact Ho
    isplitl [Hd]; · iexact Hd
    isplitl [HO]; · iexact HO
    isplitl [Ht]; · iexact Ht
    isplitl [Hre]; · iexact Hre
    isplitl [Ht']; · iexact Ht'
    iexact Hre'
  iintro ⟨Hc, HO⟩
  iapply (le_wp_ret frame (wpE (defs₀ (F := F)) 𝒱₀ (d : Thread nD τ) none) Set.univ PUnit.unit _)
  isplitr [HO]
  · isplitl [Hc]; · iexact Hc
    isplitl [Hv0 Hv1]
    · isplitl [Hv0] <;> iassumption
    isplitl [Hs]
    · iexists _; iexact Hs
    · iexists _; iexact Hr
  isplitr; · iexact HI
  isplitr; · iexact Hlev
  iexists W2; iexact HO

/-- What the fourth pass takes for chunk `i`. -/
def A4 (d : Dev nD) (i : Fin 8) : sProp 𝕄 :=
  iprop((cred (tallyAt (cell d 2 i) () N) ∗ atPos ER (cell d 2 i) 0 ∅ 0) ∗ (cred (tallyAt (cell d 3 i) () N) ∗ atPos ER (cell d 3 i) 0 ∅ 0))
/-- What the fourth pass leaves for chunk `i`. -/
def B4 (d : Dev nD) (i : Fin 8) : sProp 𝕄 :=
  iprop((semVal (cell d 2 i) 0 ∗ semVal (cell d 3 i) 0) ∗ at_ d (oC d i) (outVal X Y d i) ∗ at_ d (oC (yp d) i) (outVal X Y (yp d) i))
/-- The state of the fourth pass. -/
def I4 (K : GSem nD τ sig → ℕ) (d : Dev nD) (_ : ℕ) : sProp 𝕄 :=
  iprop(invs X Y K ∗ levAts L lv ∗ ∃ W, owes (d : Thread nD τ) (0 : CellTallies nD τ sig Unit) W)

theorem chunk4_ok (K : GSem nD τ sig → ℕ) (d : Dev nD) (n : ℕ) (i : Fin 8) :
    iprop(A4 d i ∗ I4 X Y K d (n + 1)) ⊢ (wpd d (chunk4 d i) (fun _ => iprop(B4 X Y d i ∗ I4 X Y K d n)) : sProp 𝕄) := by
  unfold I4 A4 B4 chunk4
  simp only [Prog.lift, Prog.bind_op, Prog.bind_ret]
  iintro ⟨⟨⟨Hc2, Ha2⟩, ⟨Hc3, Ha3⟩⟩, #HI, #Hlev, ⟨%W, HO⟩⟩
  iapply (wait_copy X Y K d 2 i rfl (credit_o d i) 0 W (by rw [MayWait_zero]; iintro -; iempintro)) $$ [Hc2 HO Ha2]
  · isplitr; · iexact HI
    isplitr; · iexact Hlev
    isplitl [Hc2]; · iexact Hc2
    isplitl [HO]; · iexact HO
    iexact Ha2
  iintro ⟨⟨%W1, HO⟩, Ho, Hv2⟩
  iapply (wait_copy X Y K d 3 i rfl (credit_o d i) 0 W1 (by rw [MayWait_zero]; iintro -; iempintro)) $$ [Hc3 HO Ha3]
  · isplitr; · iexact HI
    isplitr; · iexact Hlev
    isplitl [Hc3]; · iexact Hc3
    isplitl [HO]; · iexact HO
    iexact Ha3
  iintro ⟨⟨%W2, HO⟩, Hp, Hv3⟩
  ihave Ho := (copyPay_2 X Y d i) $$ Ho
  ihave Hp := (copyPay_3 X Y d i) $$ Hp
  iapply (le_wp_ret frame (wpE (defs₀ (F := F)) 𝒱₀ (d : Thread nD τ) none) Set.univ PUnit.unit _)
  isplitr [HO]
  · isplitl [Hv2 Hv3]
    · isplitl [Hv2] <;> iassumption
    isplitl [Ho] <;> iassumption
  isplitr; · iexact HI
  isplitr; · iexact Hlev
  iexists W2; iexact HO

end Proof
end
-- ==== Proof.Barrier.lean ====
module

public import proofs.«01_k».proof.Proof.Body

@[expose] public section

noncomputable section

/-! # The barrier, and the body as a whole -/

namespace Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x2048 .bf16) (Y : Dev nD → Vec F S2048x4096 .bf16)

theorem barrier_ops (d : Dev nD) : (barrier d : P F)
    = .op (.semSignal (xp d : Thread nD τ) barS ((1 : ℕ) : ℤ)) fun _ => .op (.semSignal (yp d : Thread nD τ) barS ((1 : ℕ) : ℤ)) fun _ =>
        .op (.semWait barS ((2 : ℕ) : ℤ)) .ret := rfl

/-- The barrier: the device hands its receive buffer to the neighbour along the first axis and the half of its result
    that it does not compute to the neighbour along the second, and receives the same of theirs. -/
theorem barrier_ok (K : GSem nD τ sig → ℕ) (d : Dev nD) (W : Waits sig Unit) :
    iprop(invs X Y K ∗ levAts L lv ∗ owes (d : Thread nD τ) (O₀ d) W
        ∗ (dutyTok ER (barCell (xp d)) 0 true ∗ reached ER (barCell (xp d)) 0) ∗ (dutyTok ER (barCell (yp d)) 0 false ∗ reached ER (barCell (yp d)) 0)
        ∗ barPayX (xp d) ∗ barPayY (yp d) ∗ (cred (tallyAt (barCell d) () 1) ∗ cred (tallyAt (barCell d) () 1)) ∗ atPos ER (barCell d) 0 ∅ 0)
      ⊢ (wpd d (barrier d) (fun _ => iprop((∃ W', owes (d : Thread nD τ) (copies d) W') ∗ barPayX d ∗ barPayY d ∗ semVal (barCell d) 0)) : sProp 𝕄) := by
  rw [barrier_ops]
  unfold wpd
  iintro ⟨#HI, #Hlev, HO, ⟨Htx, Hrx⟩, ⟨Hty, Hry⟩, Hpx, Hpy, ⟨Hc, Hc'⟩, Hat⟩
  ihave #HIx := (inv_bar X Y K (xp d)) $$ HI
  ihave #HIy := (inv_bar X Y K (yp d)) $$ HI
  ihave #HIb := (inv_bar X Y K d) $$ HI
  iapply (Rounds.wp_signal 𝒱₀ ER (Rd X Y) (d : Thread nD τ) none (dst := (xp d : Thread nD τ)) (sem := barS) (r := 0) (d := true)
    (κ := K (barCell (xp d))) (by rw [duties_bar]; decide) (amount_bar X Y (xp d) 0 true) () (copies d + tallyAt (barCell (yp d)) () 1) rfl) $$ [HO Htx Hrx Hpx]
  · isplitr; · iexact HIx
    isplitl [HO]; · iexact HO
    isplitl [Htx]; · iexact Htx
    isplitl [Hpx]; · rw [payload_barX]; iexact Hpx
    iexact Hrx
  iintro HO
  iapply (Rounds.wp_signal 𝒱₀ ER (Rd X Y) (d : Thread nD τ) none (dst := (yp d : Thread nD τ)) (sem := barS) (r := 0) (d := false)
    (κ := K (barCell (yp d))) (by rw [duties_bar]; decide) (amount_bar X Y (yp d) 0 false) () (copies d) rfl) $$ [HO Hty Hry Hpy]
  · isplitr; · iexact HIy
    isplitl [HO]; · iexact HO
    isplitl [Hty]; · iexact Hty
    isplitl [Hpy]; · rw [payload_barY]; iexact Hpy
    iexact Hry
  iintro HO
  have hcred : iprop(cred (tallyAt (barCell d) () 1) ∗ cred (tallyAt (barCell d) () 1)) ⊢ (cred (tallyAt (barCell d) () 2) : sProp 𝕄) := by
    rw [show (tallyAt (barCell d) () 2 : CellTallies nD τ sig Unit) = tallyAt (barCell d) () 1 + tallyAt (barCell d) () 1 from (tallyAt_add _ _ 1 1).symm]
    exact (cred_add _ _).2
  iapply (Rounds.wp_wait_rest_token 𝒱₀ ER (Rd X Y) (d : Thread nD τ) none (κ := K (barCell d)) (wpE_semWait_eq 𝒱₀ (d : Thread nD τ) none Set.univ)
    (Set.mem_univ _) () (O := copies d) (W := W) (R := 0) (m := 0) (T := ∅) (by rw [Nat.zero_add]; exact (expect_bar X Y d).symm)) $$ [HO Hc Hc' Hat]
  · isplitr; · iexact HIb
    isplitl [Hc Hc']
    · iapply hcred
      isplitl [Hc] <;> iassumption
    isplitl [HO]; · iexact HO
    isplitr; · iapply (mayWait_bar d); iexact Hlev
    iexact Hat
  iintro ⟨HO, Hat, -, Hpay⟩
  ihave Hp := (Entails.of_eq (show (bigSep ((Rd X Y).duties (barCell d) 0 \ ∅) fun b => (Rd X Y).payload (barCell d) 0 b : sProp 𝕄) = iprop(barPayX d ∗ barPayY d) by
    rw [duties_bar, Finset.sdiff_empty, bigSep_insert (by decide), bigSep_singleton, payload_barX, payload_barY]; rfl)) $$ Hpay
  icases Hp with ⟨Hpx, Hpy⟩
  iapply (fupd_wp frame (wpE (defs₀ (F := F)) 𝒱₀ (d : Thread nD τ) none) Set.univ (.ret ⟨⟩) _)
  imod (close_cell X Y K (barCell d)) $$ [Hat] with Hs
  · isplitr; · iexact HIb
    iexact Hat
  imodintro
  iapply (le_wp_ret frame (wpE (defs₀ (F := F)) 𝒱₀ (d : Thread nD τ) none) Set.univ PUnit.unit _)
  isplitl [HO]; · iexists _; iexact HO
  isplitl [Hpx]; · iexact Hpx
  isplitl [Hpy]; · iexact Hpy
  iexact Hs

end Proof
end
-- ==== Proof.Chunks.lean ====
module

public import proofs.«01_k».proof.Proof.Barrier

@[expose] public section

noncomputable section

/-! # A buffer as its chunks

The send and the receive buffer are eight chunks each; the result is the eight chunks that a device fills itself and
the eight that its neighbour along the second axis fills. -/

namespace Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## One function from a covering family of pieces -/

section Glue
variable {sh : Shape} {A : Type} {T : Type} [Fintype T] [DecidableEq T] (r : T → Rect sh)
  (hd : ∀ t t', t ≠ t' → Disjoint (r t).set (r t').set)
  (hcov : (Finset.univ : Finset T).biUnion (fun t => (r t).set) = Finset.univ)

include hcov in
/-- Every index lies in one of the rectangles. -/
theorem covered (x : sh.Idx) : ∃ t, ∃ j, (r t).emb j = x := by
  obtain ⟨t, -, hx⟩ := Finset.mem_biUnion.mp (hcov.symm ▸ Finset.mem_univ x)
  rw [← Rect.map_emb_univ, Finset.mem_map] at hx
  obtain ⟨j, -, hj⟩ := hx
  exact ⟨t, j, hj⟩

/-- The function that is `V t` on rectangle `t`. -/
def glue (V : ∀ t, (r t).shape.Idx → A) (x : sh.Idx) : A :=
  V (covered r hcov x).choose (covered r hcov x).choose_spec.choose

include hd in
theorem glue_emb (V : ∀ t, (r t).shape.Idx → A) (t : T) (j : (r t).shape.Idx) : glue r hcov V ((r t).emb j) = V t j := by
  have key : ∀ t' (j' : (r t').shape.Idx), (r t').emb j' = (r t).emb j → V t' j' = V t j := by
    intro t' j' h
    have ht : t' = t := by
      by_contra hne
      have h1 : (r t').emb j' ∈ (r t').set := (r t').map_emb_univ ▸ Finset.mem_map_of_mem _ (Finset.mem_univ j')
      have h2 : (r t').emb j' ∈ (r t).set := h ▸ (r t).map_emb_univ ▸ Finset.mem_map_of_mem _ (Finset.mem_univ j)
      exact Finset.disjoint_left.mp (hd t' t hne) h1 h2
    subst ht
    rw [(r t').emb.injective h]
  exact key _ _ (covered r hcov ((r t).emb j)).choose_spec.choose_spec

end Glue

/-! ## The chunks of the send and the receive buffer -/

theorem col_disjoint : ∀ i i' : Fin 8, i ≠ i' → Disjoint (colR i).set (colR i').set := by
  intro i i' h
  refine Rect.unit_disjoint 1 ?_
  show 512 * i.val + 512 ≤ 512 * i'.val ∨ 512 * i'.val + 512 ≤ 512 * i.val
  have : i.val ≠ i'.val := fun e => h (Fin.ext e)
  omega

theorem col_cover : (Finset.univ : Finset (Fin 8)).biUnion (fun i => (colR i).set) = Finset.univ := by
  refine Finset.eq_univ_of_forall fun x => ?_
  have h0 : (x 0).val < 1024 := (x 0).isLt
  have h1 : (x 1).val < 4096 := (x 1).isLt
  refine Finset.mem_biUnion.mpr ⟨⟨(x 1).val / 512, by omega⟩, Finset.mem_univ _, ?_⟩
  refine Rect.mem_set_unit.mpr fun a => ?_
  match a with
  | 0 => exact ⟨Nat.zero_le _, by show (x 0).val < 0 + 1024; omega⟩
  | 1 => exact ⟨by show 512 * ((x 1).val / 512) ≤ (x 1).val; omega, by show (x 1).val < 512 * ((x 1).val / 512) + 512; omega⟩

/-! ## The chunks of the result -/

/-- The sixteen chunks of the result on device `d`: its own eight and the eight of its neighbour along the second axis. -/
abbrev resR (d : Dev nD) (t : Bool × Fin 8) : Rect S1024x8192 := outR (if t.1 then d else yp d) t.2

theorem yp_mod (d : Dev nD) : (yp d).val % 2 = 1 - d.val % 2 := by revert d; decide

theorem side_mod (d : Dev nD) (b : Bool) : (if b then d else yp d : Dev nD).val % 2 = if b then d.val % 2 else 1 - d.val % 2 := by
  cases b
  · exact yp_mod d
  · rfl

theorem mem_outR (d : Dev nD) (i : Fin 8) (x : S1024x8192.Idx) :
    x ∈ (outR d i).set ↔ 4096 * (d.val % 2) + 512 * i.val ≤ (x 1).val ∧ (x 1).val < 4096 * (d.val % 2) + 512 * i.val + 512 := by
  have e := k0_off4_eq d i
  have h0 : (x 0).val < 1024 := (x 0).isLt
  rw [Rect.mem_set_unit]
  constructor
  · intro h
    have := h 1
    rw [e] at this
    exact this
  · intro h a
    rw [e]
    match a with
    | 0 => exact ⟨Nat.zero_le _, by show (x 0).val < 0 + 1024; omega⟩
    | 1 => exact h

theorem res_disjoint (d : Dev nD) : ∀ t t' : Bool × Fin 8, t ≠ t' → Disjoint (resR d t).set (resR d t').set := by
  rintro ⟨b, i⟩ ⟨b', i'⟩ h
  rw [Finset.disjoint_left]
  intro x hx hx'
  rw [mem_outR, side_mod] at hx hx'
  have h2 : d.val % 2 < 2 := Nat.mod_lt _ (by decide)
  have hi := i.isLt
  have hi' := i'.isLt
  apply h
  cases b <;> cases b' <;> simp only [Bool.false_eq_true, if_true, if_false] at hx hx' <;>
    first | exact Prod.ext rfl (Fin.ext (by show i.val = i'.val; omega)) | (exfalso; omega)

theorem res_cover (d : Dev nD) : (Finset.univ : Finset (Bool × Fin 8)).biUnion (fun t => (resR d t).set) = Finset.univ := by
  refine Finset.eq_univ_of_forall fun x => ?_
  have h1 : (x 1).val < 8192 := (x 1).isLt
  refine Finset.mem_biUnion.mpr ⟨(decide ((x 1).val / 4096 = d.val % 2), ⟨(x 1).val % 4096 / 512, by omega⟩), Finset.mem_univ _, ?_⟩
  rw [mem_outR, side_mod]
  have h2 : d.val % 2 < 2 := Nat.mod_lt _ (by decide)
  by_cases hc : (x 1).val / 4096 = d.val % 2
  · simp only [hc, decide_true, if_true]; omega
  · simp only [hc, decide_false, Bool.false_eq_true, if_false]; omega

/-! ## Splitting and joining -/

theorem any_intro (d : Dev nD) {sh : Shape} {e : EltTy} {sp : Space} (m : Memref sig .tc sp sh e) (V : sh.Idx → Elt F e) :
    (at_ d m V : sProp 𝕄) ⊢ any_ d m := by
  iintro H
  iexists V
  iexact H

/-- A family of values can be chosen out of a family of existentials. -/
theorem bigSep_choose {I A : Type} [DecidableEq I] [Nonempty A] (S : Finset I) (Φ : I → A → sProp 𝕄) :
    bigSep S (fun i => iprop(∃ a, Φ i a)) ⊢ iprop(∃ f : I → A, bigSep S fun i => Φ i (f i)) := by
  induction S using Finset.induction_on with
  | empty =>
    rw [BI.bigSep_empty]
    iintro -
    iexists fun _ => Classical.arbitrary A
    rw [BI.bigSep_empty]
    iempintro
  | insert i S hi ih =>
    rw [bigSep_insert hi]
    refine (show iprop((∃ a, Φ i a) ∗ bigSep S fun i => iprop(∃ a, Φ i a)) ⊢ _ from ?_)
    iintro ⟨⟨%a, Ha⟩, HS⟩
    ihave H := ih $$ HS
    icases H with ⟨%f, HS⟩
    have e : (bigSep (insert i S) fun j => Φ j (Function.update f i a j)) = iprop(Φ i a ∗ bigSep S fun j => Φ j (f j)) := by
      have e' : (bigSep S fun j => Φ j (Function.update f i a j)) = bigSep S fun j => Φ j (f j) :=
        BI.bigSep_congr fun j hj => by
          have hne : j ≠ i := fun h => hi (h ▸ hj)
          rw [Function.update_of_ne hne]
      rw [bigSep_insert hi, e', Function.update_self]; rfl
    iexists Function.update f i a
    rw [e]
    isplitl [Ha] <;> iassumption

section Split
variable (d : Dev nD) {sh : Shape} {e : EltTy} (m : Memref sig .tc .vmem sh e)
variable {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)

include hd hcov in
/-- A buffer at some contents is its pieces, each at some contents. -/
theorem split_any : (any_ d m : sProp 𝕄) ⊢ bigSep Finset.univ fun t => any_ d (m.slice (r t) (hr t)) := by
  have h : ∀ V, (at_ d m V : sProp 𝕄) ⊢ bigSep Finset.univ fun t => any_ d (m.slice (r t) (hr t)) := fun V =>
    (show (at_ d m V : sProp 𝕄) ⊢ _ from owns_rects (d : Thread nD τ) m fullShare r hr hd hcov V).trans
      (bigSep_mono fun t _ => any_intro d (m.slice (r t) (hr t)) _)
  iintro ⟨%V, H⟩
  iapply (h V)
  iexact H

include hd in
/-- Pieces at known contents are the buffer at the function glued from them. -/
theorem join_at (V : ∀ t, (r t).shape.Idx → Elt F e) :
    (bigSep Finset.univ fun t => at_ d (m.slice (r t) (hr t)) (V t) : sProp 𝕄) ⊢ at_ d m (glue r hcov V) := by
  have h : (fun t => (at_ d (m.slice (r t) (hr t)) (V t) : sProp 𝕄))
      = fun t => at_ d (m.slice (r t) (hr t)) (fun j => glue r hcov V ((r t).emb j)) := by
    funext t
    congr 1
    funext j
    exact (glue_emb r hd hcov V t j).symm
  rw [h]
  exact owns_of_rects (d : Thread nD τ) m fullShare r hr hd hcov (glue r hcov V)

end Split

/-- The eight chunks of a send or receive buffer, at any contents, are the buffer at some contents. -/
theorem join_cols (d : Dev nD) (m : Memref sig .tc .vmem S1024x4096 .bf16) :
    (bigSep Finset.univ fun i => any_ d (m.slice (colR i) (fun _ => rfl)) : sProp 𝕄) ⊢ any_ d m := by
  have hne : Nonempty (Vec F S1024x512 .bf16) := (Elt.nonempty F .bf16).map fun v _ => v
  have h : (bigSep Finset.univ fun i => any_ d (m.slice (colR i) (fun _ => rfl)) : sProp 𝕄)
      ⊢ iprop(∃ V : Fin 8 → Vec F S1024x512 .bf16, bigSep Finset.univ fun i => at_ d (m.slice (colR i) (fun _ => rfl)) (V i)) :=
    bigSep_choose Finset.univ fun i (V : Vec F S1024x512 .bf16) => at_ d (m.slice (colR i) (fun _ => rfl)) V
  iintro H
  ihave H := h $$ H
  icases H with ⟨%V, H⟩
  iexists glue colR col_cover V
  iapply (show (bigSep Finset.univ fun i => (at_ d (m.slice (colR i) (fun _ => rfl)) (V i) : sProp 𝕄)) ⊢ at_ d m (glue colR col_cover V) from
    join_at d m colR (fun _ _ => rfl) col_disjoint col_cover V)
  iexact H

/-- A send or receive buffer at some contents is its eight chunks at some contents. -/
theorem split_cols (d : Dev nD) (m : Memref sig .tc .vmem S1024x4096 .bf16) :
    (any_ d m : sProp 𝕄) ⊢ bigSep Finset.univ fun i => any_ d (m.slice (colR i) (fun _ => rfl)) :=
  split_any d m colR (fun _ _ => rfl) col_disjoint col_cover

/-- A family over both sides of the result is the family of the one side and that of the other. -/
theorem bigSep_sides (Φ : Bool × Fin 8 → sProp 𝕄) :
    bigSep Finset.univ Φ = iprop((bigSep Finset.univ fun i => Φ (true, i)) ∗ bigSep Finset.univ fun i => Φ (false, i)) := by
  rw [BI.bigSep_univ_prod, show (Finset.univ : Finset Bool) = {true, false} from by decide, bigSep_insert (by decide), bigSep_singleton]
  rfl

/-- The result at some contents is its sixteen chunks at some contents. -/
theorem split_out (d : Dev nD) :
    (any_ d oM : sProp 𝕄) ⊢ iprop((bigSep Finset.univ fun i => any_ d (oC d i)) ∗ bigSep Finset.univ fun i => any_ d (oC (yp d) i)) := by
  refine (split_any d oM (resR d) (fun _ _ => rfl) (res_disjoint d) (res_cover d)).trans ?_
  rw [bigSep_sides]
  exact .rfl

variable (X : Dev nD → Vec F S2048x2048 .bf16) (Y : Dev nD → Vec F S2048x4096 .bf16)

/-- What the kernel leaves in the result of device `d`: on each chunk, the sum that fills it. -/
def outAt (d : Dev nD) : Vec F S1024x8192 .bf16 :=
  glue (resR d) (res_cover d) fun t => outVal X Y (if t.1 then d else yp d) t.2

theorem outAt_emb (d : Dev nD) (b : Bool) (i : Fin 8) (j : S1024x512.Idx) :
    outAt X Y d ((resR d (b, i)).emb j) = outVal X Y (if b then d else yp d) i j :=
  glue_emb (resR d) (res_disjoint d) (res_cover d) (fun t => outVal X Y (if t.1 then d else yp d) t.2) (b, i) j

/-- The sixteen chunks, each at the sum that fills it, are the result. -/
theorem join_out (d : Dev nD) :
    iprop((bigSep Finset.univ fun i => at_ d (oC d i) (outVal X Y d i)) ∗ bigSep Finset.univ fun i => at_ d (oC (yp d) i) (outVal X Y (yp d) i))
      ⊢ (at_ d oM (outAt X Y d) : sProp 𝕄) := by
  refine BIBase.Entails.trans ?_ (join_at d oM (resR d) (fun _ _ => rfl) (res_disjoint d) (res_cover d)
    fun t => outVal X Y (if t.1 then d else yp d) t.2)
  rw [bigSep_sides]
  exact .rfl

end Proof
end
-- ==== Proof.Whole.lean ====
module

public import proofs.«01_k».proof.Proof.Chunks

@[expose] public section

noncomputable section

/-! # One device's run of the whole body -/

namespace Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x2048 .bf16) (Y : Dev nD → Vec F S2048x4096 .bf16)

/-- Two families over the chunks are one family of pairs. -/
theorem zip (A B : Fin 8 → sProp 𝕄) :
    (bigSep Finset.univ fun i => iprop(A i ∗ B i)) = iprop(bigSep Finset.univ A ∗ bigSep Finset.univ B) := bigSep_sep _ _ _

/-- A family over all copy cells of a device is four families over the chunks. -/
theorem quad (A : Fin 4 → Fin 8 → sProp 𝕄) :
    (bigSep Finset.univ fun k : Fin 4 × Fin 8 => A k.1 k.2)
      = iprop(bigSep Finset.univ (A 0) ∗ bigSep Finset.univ (A 1) ∗ bigSep Finset.univ (A 2) ∗ bigSep Finset.univ (A 3)) := by
  rw [BI.bigSep_univ_prod, show (Finset.univ : Finset (Fin 4)) = {0, 1, 2, 3} from by decide, bigSep_insert (by decide),
    bigSep_insert (by decide), bigSep_insert (by decide), bigSep_singleton]
  rfl

/-- The duties that a device pays: one raise of each neighbour's barrier, and the two landings of each of its copies. -/
def toks (d : Dev nD) : sProp 𝕄 :=
  iprop(dutyTok ER (barCell (xp d)) 0 true ∗ dutyTok ER (barCell (yp d)) 0 false
    ∗ (bigSep Finset.univ fun i => dutyTok ER (cell d 0 i) 0 true) ∗ (bigSep Finset.univ fun i => dutyTok ER (cell (xp d) 1 i) 0 true)
    ∗ (bigSep Finset.univ fun i => dutyTok ER (cell d 2 i) 0 true) ∗ (bigSep Finset.univ fun i => dutyTok ER (cell (yp d) 3 i) 0 true))

/-- Where a device stands at the start of the body: at round zero of all its cells, with its duties. -/
def opened (d : Dev nD) : sProp 𝕄 :=
  iprop((reached ER (barCell (xp d)) 0 ∗ reached ER (barCell (yp d)) 0) ∗ atPos ER (barCell d) 0 ∅ 0
    ∗ (bigSep Finset.univ fun k : Fin 4 × Fin 8 => iprop(atPos ER (cell d k.1 k.2) 0 ∅ 0 ∗ reached ER (cell d k.1 k.2) 0)) ∗ toks d)

/-- The credits a device holds at the start. -/
def credits (d : Dev nD) : sProp 𝕄 :=
  iprop((cred (tallyAt (barCell d) () 1) ∗ cred (tallyAt (barCell d) () 1))
      ∗ (bigSep Finset.univ fun i => cred (tallyAt (cell d 1 i) () N)) ∗ bigSep Finset.univ fun i => cred (tallyAt (cell d 3 i) () N))

/-- All the semaphores of a device that the body uses, at zero. -/
def sems (d : Dev nD) : sProp 𝕄 :=
  iprop(semVal (barCell d) 0 ∗ bigSep Finset.univ fun k : Fin 4 × Fin 8 => semVal (cell d k.1 k.2) 0)

/-- One device's run of the body: from its rows of `x` and its columns of `dy` it leaves the result in the result's
    buffer, and all its semaphores at zero. -/
theorem body_run (K : GSem nD τ sig → ℕ) (d : Dev nD) (W : Waits sig Unit) :
    iprop(invs X Y K ∗ levAts L lv ∗ at_ d xM (X d) ∗ at_ d yM (Y d) ∗ any_ d oM ∗ any_ d sM ∗ any_ d rM
        ∗ owes (d : Thread nD τ) (O₀ d) W ∗ opened d ∗ credits d)
      ⊢ (wpd d (bodyOf d) (fun _ => iprop(at_ d xM (X d) ∗ at_ d yM (Y d) ∗ at_ d oM (outAt X Y d) ∗ any_ d sM ∗ any_ d rM
          ∗ (∃ W', owes (d : Thread nD τ) (0 : CellTallies nD τ sig Unit) W') ∗ sems d)) : sProp 𝕄) := by
  unfold bodyOf opened credits toks sems
  rw [quad (fun p i => iprop(atPos ER (cell d p i) 0 ∅ 0 ∗ reached ER (cell d p i) 0)), zip, zip, zip, zip, quad (fun p i => semVal (cell d p i) 0)]
  iintro ⟨#HI, #Hlev, Hx, Hy, Ho, Hs, Hr, HO, ⟨⟨#Hrx, #Hry⟩, Hab, ⟨⟨Ha0, Hm0⟩, ⟨Ha1, Hm1⟩, ⟨Ha2, Hm2⟩, ⟨Ha3, Hm3⟩⟩, Htx, Hty, Ht0, Ht1, Ht2, Ht3⟩, Hcb, Hc1, Hc3⟩
  ihave Hs := (split_cols d sM) $$ Hs
  ihave Hr := (split_cols d rM) $$ Hr
  ihave Ho := (split_out d) $$ Ho
  icases Ho with ⟨Ho, Hoy⟩
  -- the barrier
  unfold wpd
  rw [wp_bind]
  iapply (wp_wand_r frame (wpE (defs₀ (F := F)) 𝒱₀ (d : Thread nD τ) none) Set.univ)
  isplitl [HO Htx Hty Hr Hm1 Hoy Hm3 Hcb Hab]
  · iapply (show _ ⊢ wp frame (wpE (defs₀ (F := F)) 𝒱₀ (d : Thread nD τ) none) Set.univ (barrier d) _ from barrier_ok X Y K d W)
    isplitr; · iexact HI
    isplitr; · iexact Hlev
    isplitl [HO]; · iexact HO
    isplitl [Htx]; · isplitl [Htx]; · iexact Htx
                     iexact Hrx
    isplitl [Hty]; · isplitl [Hty]; · iexact Hty
                     iexact Hry
    isplitl [Hr Hm1]
    · unfold barPayX; rw [xp_xp]
      isplitl [Hr]; · iexact Hr
      iexact Hm1
    isplitl [Hoy Hm3]
    · unfold barPayY; rw [yp_yp]
      isplitl [Hoy] <;> iassumption
    isplitl [Hcb]; · iexact Hcb
    iexact Hab
  unfold barPayX barPayY
  iintro %_ ⟨⟨%W1, HO⟩, ⟨Hr, Hm1⟩, ⟨Hoy, Hm3⟩, Hvb⟩
  -- the first pass
  rw [wp_bind]
  iapply (wp_wand_r frame (wpE (defs₀ (F := F)) 𝒱₀ (d : Thread nD τ) none) Set.univ)
  isplitl [Hx Hy HO Hs Hr Ht0 Hm0 Ht1 Hm1]
  · iapply (show _ ⊢ wp frame (wpE (defs₀ (F := F)) 𝒱₀ (d : Thread nD τ) none) Set.univ (steps (chunk1 d) 8 _) _ from
      wp_pass d (chunk1 d) (A1 d) (B1 d) (I1 X Y K d) (chunk1_ok X Y K d) _)
    isplitl [Hs Hr Ht0 Hm0 Ht1 Hm1]
    · unfold A1
      rw [zip, zip, zip, zip, zip]
      isplitl [Hs]; · iexact Hs
      isplitl [Hr]; · iexact Hr
      isplitl [Ht0]; · iexact Ht0
      isplitl [Hm0]; · iexact Hm0
      isplitl [Ht1]; · iexact Ht1
      iexact Hm1
    · unfold I1
      isplitr; · iexact HI
      isplitl [Hx]; · iexact Hx
      isplitl [Hy]; · iexact Hy
      iexists W1; iexact HO
  unfold I1
  rw [debt_zero, add_zero]
  iintro %_ ⟨Hc0, -, Hx, Hy, HO⟩
  -- the second pass
  rw [wp_bind]
  iapply (wp_wand_r frame (wpE (defs₀ (F := F)) 𝒱₀ (d : Thread nD τ) none) Set.univ)
  isplitl [Hx Hy Ho]
  · iapply (show _ ⊢ wp frame (wpE (defs₀ (F := F)) 𝒱₀ (d : Thread nD τ) none) Set.univ (steps (chunk2 d) 8 _) _ from
      wp_pass d (chunk2 d) (A2 d) (B2 X Y d) (I2 X Y d) (fun n hn => chunk2_ok X Y d n _) _)
    isplitl [Ho]; · iexact Ho
    unfold I2
    isplitl [Hx] <;> iassumption
  unfold I2
  iintro %_ ⟨Ho, Hx, Hy⟩
  -- the third pass
  rw [wp_bind]
  iapply (wp_wand_r frame (wpE (defs₀ (F := F)) 𝒱₀ (d : Thread nD τ) none) Set.univ)
  isplitl [HO Ho Hc0 Ha0 Hc1 Ha1 Hoy Ht2 Hm2 Ht3 Hm3]
  · iapply (show _ ⊢ wp frame (wpE (defs₀ (F := F)) 𝒱₀ (d : Thread nD τ) none) Set.univ (steps (chunk3 d) 8 _) _ from
      wp_pass d (chunk3 d) (A3 X Y d) (B3 d) (I3 X Y K d) (chunk3_ok X Y K d) _)
    isplitr [HO]
    · unfold A3
      rw [zip, zip, zip, zip, zip, zip, zip, zip, zip]
      isplitl [Hc0 Ha0]; · isplitl [Hc0]; · iexact Hc0
                           iexact Ha0
      isplitl [Hc1 Ha1]; · isplitl [Hc1]; · iexact Hc1
                           iexact Ha1
      isplitl [Ho]; · iexact Ho
      isplitl [Hoy]; · iexact Hoy
      isplitl [Ht2]; · iexact Ht2
      isplitl [Hm2]; · iexact Hm2
      isplitl [Ht3]; · iexact Ht3
      iexact Hm3
    · unfold I3
      isplitr; · iexact HI
      isplitr; · iexact Hlev
      iexact HO
  unfold I3 B3
  rw [debt_zero, zip, zip, zip, zip]
  iintro %_ ⟨⟨Hc2, ⟨Hv0, Hv1⟩, Hs, Hr⟩, -, -, HO⟩
  -- the fourth pass
  iapply (wp_wand_r frame (wpE (defs₀ (F := F)) 𝒱₀ (d : Thread nD τ) none) Set.univ)
  isplitl [HO Hc2 Ha2 Hc3 Ha3]
  · iapply (show _ ⊢ wp frame (wpE (defs₀ (F := F)) 𝒱₀ (d : Thread nD τ) none) Set.univ (steps (chunk4 d) 8 _) _ from
      wp_pass d (chunk4 d) (A4 d) (B4 X Y d) (I4 X Y K d) (fun n hn => chunk4_ok X Y K d n _) _)
    isplitr [HO]
    · unfold A4
      rw [zip, zip, zip]
      isplitl [Hc2 Ha2]; · isplitl [Hc2]; · iexact Hc2
                           iexact Ha2
      isplitl [Hc3]; · iexact Hc3
      iexact Ha3
    · unfold I4
      isplitr; · iexact HI
      isplitr; · iexact Hlev
      iexact HO
  unfold I4 B4
  rw [zip, zip, zip]
  iintro %_ ⟨⟨⟨Hv2, Hv3⟩, Ho, Hoy⟩, -, -, HO⟩
  isplitl [Hx]; · iexact Hx
  isplitl [Hy]; · iexact Hy
  isplitl [Ho Hoy]
  · iapply (join_out X Y d)
    isplitl [Ho] <;> iassumption
  isplitl [Hs]; · iapply (join_cols d sM); iexact Hs
  isplitl [Hr]; · iapply (join_cols d rM); iexact Hr
  isplitl [HO]; · iexact HO
  isplitl [Hvb]; · iexact Hvb
  isplitl [Hv0]; · iexact Hv0
  isplitl [Hv1]; · iexact Hv1
  isplitl [Hv2]; · iexact Hv2
  iexact Hv3

end Proof
end
-- ==== Proof.Region.lean ====
module

public import proofs.«01_k».proof.Proof.Whole
public import Idealize.ShloMosaic.Lib.Pipeline.ValueKit.Geometry

@[expose] public section

noncomputable section

/-! # The kernel's region: its proof data and its body -/

namespace Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- The rows of `x` that device `c` hands the kernel. -/
def xIn (c : Dev nD) : Vec F S2048x2048 .bf16 := V1 m c main_arg0
/-- The columns of `dy` that device `c` hands the kernel. -/
def yIn (c : Dev nD) : Vec F S2048x4096 .bf16 := V1 m c main_v9

/-- The two scratch buffers at some contents, and the generator register. -/
def rest (c : Dev nD) : sProp 𝕄 := iprop(any_ c sM ∗ any_ c rM ∗ ∃ r, prngReg c r)
/-- Before the body: the protocol's state, its credits and levels. -/
def Φ₀ (c : Dev nD) : sProp 𝕄 :=
  iprop(((∃ K, invs (xIn m) (yIn m) K ∗ opened c) ∗ credits c ∗ levAts L lv) ∗ rest c)
/-- After the body: every semaphore at zero. -/
def Φ₁ (c : Dev nD) : sProp 𝕄 := iprop(sems c ∗ rest c)

/-- The region's proof data: the arrays it is handed, what the body leaves, and what it owes. -/
def dats (_ : Fin 1) (c : Dev nD) : Dat τ (Elt F) Unit ℕ UU ℕ cfg0 c where
  A w := match w with
    | ⟨0, _⟩ => V1 m c main_arg0
    | ⟨1, _⟩ => V1 m c main_v9
    | ⟨2, _⟩ => V1 m c main_v10
  after w _ := match w with
    | ⟨0, _⟩ => xIn m c
    | ⟨1, _⟩ => yIn m c
    | ⟨2, _⟩ => outAt (xIn m) (yIn m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem before_x (c : Dev nD) (d) : (dats m 0 c).before (0 : Fin 3) t0_0 d = xIn m c := by
  unfold Dat.before
  rw [if_pos (fetch0_0 t0_0)]
  show (dats m 0 c).blockOf (0 : Fin 3) t0_0 = _
  funext j
  show xIn m c ((win0_0.rect t0_0).emb j) = _
  congr 1
  funext a; apply Fin.ext
  rw [Pipeline.Window.rect_emb_val_of_index_zero _ _ _ rfl]
theorem before_y (c : Dev nD) (d) : (dats m 0 c).before (1 : Fin 3) t0_0 d = yIn m c := by
  unfold Dat.before
  rw [if_pos (fetch0_1 t0_0)]
  show (dats m 0 c).blockOf (1 : Fin 3) t0_0 = _
  funext j
  show yIn m c ((win0_1.rect t0_0).emb j) = _
  congr 1
  funext a; apply Fin.ext
  rw [Pipeline.Window.rect_emb_val_of_index_zero _ _ _ rfl]

theorem arr_x (c : Dev nD) (t : ℕ) : (dats m 0 c).arrAt (0 : Fin 3) t = V1 m c main_arg0 := (dats m 0 c).arrAt_in (0 : Fin 3) rfl t
theorem arr_y (c : Dev nD) (t : ℕ) : (dats m 0 c).arrAt (1 : Fin 3) t = V1 m c main_v9 := (dats m 0 c).arrAt_in (1 : Fin 3) rfl t
theorem arr_out (c : Dev nD) : (dats m 0 c).arrAt (2 : Fin 3) cfg0.N = outAt (xIn m) (yIn m) c :=
  (dats m 0 c).arrAt_eq_of_after_last (2 : Fin 3) t0_0 (by decide +kernel) _ fun j => rfl

/-- What the body finds. -/
def bodyPre (c : Dev nD) : sProp 𝕄 :=
  iprop(Φ₀ m c ∗ (dats m 0 c).owesAt () t0_0.castSucc
      ∗ (∃ d, at_ c xM ((dats m 0 c).before (0 : Fin 3) t0_0 d)) ∗ (∃ d, at_ c yM ((dats m 0 c).before (1 : Fin 3) t0_0 d))
      ∗ (∃ d, at_ c oM ((dats m 0 c).before (2 : Fin 3) t0_0 d)))
/-- What the body leaves. -/
def bodyPost (c : Dev nD) : sProp 𝕄 :=
  iprop(Φ₁ c ∗ (dats m 0 c).owesAt () t0_0.succ
      ∗ at_ c xM (xIn m c) ∗ at_ c yM (yIn m c) ∗ at_ c oM (outAt (xIn m) (yIn m) c))

/-- The body, from what it finds to what it leaves. -/
theorem body_sound (c : Dev nD) : (bodyPre m c : sProp 𝕄) ⊢ wpd c (bodyAt0 t0_0) (fun _ => bodyPost m c) := by
  rw [body_eq]
  unfold bodyPre bodyPost Φ₀ Φ₁ rest wpd
  simp only [Prog.lift, Prog.bind_op, Prog.bind_ret, wp_deviceId]
  iintro ⟨⟨⟨⟨%K, #HI, Hop⟩, Hcr, #Hlev⟩, Hs, Hr, Hp⟩, Ho, ⟨%d0, Hx⟩, ⟨%d1, Hy⟩, ⟨%d2, Hout⟩⟩
  rw [before_x, before_y]
  unfold Dat.owesAt Pipeline.owesWithin
  icases Ho with ⟨%W, %hW, HO⟩
  rw [show (dats m 0 c).owed t0_0.castSucc = O₀ c from rfl, show (dats m 0 c).owed t0_0.succ = 0 from rfl]
  iapply (wp_wand_r frame (wpE (defs₀ (F := F)) 𝒱₀ (c : Thread nD τ) none) Set.univ)
  isplitl [Hop Hcr Hs Hr Hx Hy Hout HO]
  · iapply (show _ ⊢ wp frame (wpE (defs₀ (F := F)) 𝒱₀ (c : Thread nD τ) none) Set.univ (bodyOf c) _ from body_run (xIn m) (yIn m) K c W)
    isplitr; · iexact HI
    isplitr; · iexact Hlev
    isplitl [Hx]; · iexact Hx
    isplitl [Hy]; · iexact Hy
    isplitl [Hout]; · iexists _; iexact Hout
    isplitl [Hs]; · iexact Hs
    isplitl [Hr]; · iexact Hr
    isplitl [HO]; · iexact HO
    isplitl [Hop]; · iexact Hop
    iexact Hcr
  iintro %_ ⟨Hx, Hy, Hout, Hs, Hr, ⟨%W', HO⟩, Hsm⟩
  isplitl [Hsm Hs Hr Hp]
  · isplitl [Hsm]; · iexact Hsm
    isplitl [Hs]; · iexact Hs
    isplitl [Hr]; · iexact Hr
    iexact Hp
  isplitl [HO]
  · iexists W'
    isplitr; · ipureintro; exact fun _ _ => Or.inl trivial
    iexact HO
  isplitl [Hx]; · iexact Hx
  isplitl [Hy]; · iexact Hy
  iexact Hout

set_option maxRecDepth 40000 in
/-- The body's obligation at the one point of the region. -/
theorem body_obligation (c : Dev nD) : BodyObligation (dats m 0 c) (defs₀ (F := F)) 𝒱₀ () Set.univ := fun t => by
  rw [fin_N0 t]
  rw [bigSep_W0, bigSep_W0]
  exact body_sound m c

end Proof
end
-- ==== Proof.Launch.lean ====
module

public import proofs.«01_k».proof.Proof.Region
public import Idealize.ShloMosaic.Lib.Rounds.Family

@[expose] public section

noncomputable section

/-! # The region as a segment of the program -/

namespace Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What of the protocol's state a device carries up to the region: its copy cells are still shut. -/
def shut (c : Dev nD) : sProp 𝕄 :=
  iprop((reached ER (barCell (xp c)) 0 ∗ reached ER (barCell (yp c)) 0) ∗ atPos ER (barCell c) 0 ∅ 0
    ∗ (bigSep Finset.univ fun k : Fin 4 × Fin 8 => openTok ER (cell c k.1 k.2)) ∗ toks c)

/-- What the launch keeps for the region. -/
def Tk (c : Dev nD) : sProp 𝕄 := iprop((∃ K, invs (xIn m) (yIn m) K ∗ shut c) ∗ credits c)
/-- What enters the region. -/
def Xk (c : Dev nD) : sProp 𝕄 := iprop((∃ K, invs (xIn m) (yIn m) K ∗ opened c) ∗ credits c ∗ levAts L lv)
/-- What the region gives back. -/
def Yk (c : Dev nD) : sProp 𝕄 := semVal (barCell c) 0

/-- The copy cells of a device are opened, from their counters at zero. -/
theorem open_cells (c : Dev nD) (K : GSem nD τ sig → ℕ) :
    iprop(invs (xIn m) (yIn m) K ∗ (bigSep Finset.univ fun k : Fin 4 × Fin 8 => openTok ER (cell c k.1 k.2)) ∗ Pipeline.ownSems0 osem c)
      ⊢ (|={Set.univ}=> bigSep Finset.univ fun k : Fin 4 × Fin 8 => iprop(atPos ER (cell c k.1 k.2) 0 ∅ 0 ∗ reached ER (cell c k.1 k.2) 0) : sProp 𝕄) := by
  have h := Rounds.cells_open ER (Rd (F := F) (xIn m) (yIn m)) (Finset.univ : Finset (Fin 4 × Fin 8)) (fun k => cell c k.1 k.2)
    (fun k => K (cell c k.1 k.2)) (Es := Set.univ) fun _ _ => Set.mem_univ _
  have h2 : iprop(invs (xIn m) (yIn m) K ∗ bigSep Finset.univ fun k : Fin 4 × Fin 8 => openTok ER (cell c k.1 k.2))
      ⊢ (bigSep Finset.univ fun k : Fin 4 × Fin 8 => iprop(cellInv ER (Rd (xIn m) (yIn m)) (K (cell c k.1 k.2)) (cell c k.1 k.2) ∗ openTok ER (cell c k.1 k.2)) : sProp 𝕄) :=
    bigSep_with_persistent (R := invs (xIn m) (yIn m) K) (Φ := fun k : Fin 4 × Fin 8 => openTok ER (cell c k.1 k.2)) fun k _ => by
      iintro ⟨#HI, H⟩
      isplitr
      · iapply (inv_cell (xIn m) (yIn m) K c k.1 k.2); iexact HI
      · iexact H
  unfold Pipeline.ownSems0
  iintro ⟨#HI, Ho, Hs⟩
  iapply h
  isplitl [Ho]
  · iapply h2
    isplitr; · iexact HI
    iexact Ho
  · iexact Hs

theorem region_open (c : Dev nD) : iprop(Tk m c ∗ Pipeline.ownSems0 osem c ∗ levAts L lv) ⊢ (|={Set.univ}=> Xk m c : sProp 𝕄) := by
  unfold Tk Xk shut opened
  iintro ⟨⟨⟨%K, #HI, Hr, Ha, Ho, Ht⟩, Hc⟩, Hs, #Hlev⟩
  imod (open_cells m c K) $$ [Ho Hs] with Hat
  · isplitr; · iexact HI
    isplitl [Ho] <;> iassumption
  imodintro
  isplitr [Hc]
  · iexists K
    isplitr; · iexact HI
    isplitl [Hr]; · iexact Hr
    isplitl [Ha]; · iexact Ha
    isplitl [Hat]; · iexact Hat
    iexact Ht
  isplitl [Hc]; · iexact Hc
  iexact Hlev

/-- The unscoped buffers after the region: the result holds what the devices formed. -/
def V' (c : Dev nD) : Valuation τ sig (Elt F) := Function.update (V1 m c) main_v10 (outAt (xIn m) (yIn m) c)

theorem V'_of (c : Dev nD) (r : Ref sig .tc) (h : r ≠ main_v10) : V' m c r = V1 m c r :=
  Function.update_of_ne (StableHlo.devRef_ne_of_ne h) _ _
theorem V'_out (c : Dev nD) : V' m c main_v10 = outAt (xIn m) (yIn m) c := Function.update_self _ _ _

theorem scratch_s (c : Dev nD) : (any_ c sM : sProp 𝕄) = iprop(∃ f : Buf (Elt F) ((c : Thread nD τ).loc cc0_scratch0), ((c : Thread nD τ).loc cc0_scratch0) ↦{fullShare} f) := by
  show iprop(∃ V, owns (c : Thread nD τ) (Memref.whole cc0_scratch0) fullShare V) = _
  simp only [owns_whole]
theorem scratch_r (c : Dev nD) : (any_ c rM : sProp 𝕄) = iprop(∃ f : Buf (Elt F) ((c : Thread nD τ).loc cc0_scratch1), ((c : Thread nD τ).loc cc0_scratch1) ↦{fullShare} f) := by
  show iprop(∃ V, owns (c : Thread nD τ) (Memref.whole cc0_scratch1) fullShare V) = _
  simp only [owns_whole]

theorem held_none (c : Dev nD) (W : Valuation τ sig (Elt F)) : (StableHlo.held (c.tc : Thread nD τ) ∅ W : sProp 𝕄) = BI.emp := by
  unfold StableHlo.held
  exact BI.bigSep_empty

theorem region_in (c : Dev nD) :
    iprop(Pipeline.scopedRest spec0 c ∗ (∃ r, prngReg c r) ∗ StableHlo.held (c.tc : Thread nD τ) ∅ (V1 m c) ∗ Xk m c) ⊢ (Φ₀ m c : sProp 𝕄) := by
  rw [scopedRest0_eq]
  unfold Φ₀ rest Xk
  rw [scratch_s, scratch_r]
  iintro ⟨⟨Hs, Hr⟩, Hp, -, HX⟩
  isplitl [HX]; · iexact HX
  isplitl [Hs]; · iexact Hs
  isplitl [Hr]; · iexact Hr
  iexact Hp

theorem region_out (c : Dev nD) :
    (Φ₁ c : sProp 𝕄) ⊢ iprop(Pipeline.scopedRest spec0 c ∗ (∃ r, prngReg c r) ∗ StableHlo.held (c.tc : Thread nD τ) ∅ (V' m c)
      ∗ Pipeline.ownSems0 osem c ∗ Yk c) := by
  rw [scopedRest0_eq, held_none]
  unfold Φ₁ rest Yk sems Pipeline.ownSems0
  rw [scratch_s, scratch_r]
  iintro ⟨⟨Hb, Hk⟩, Hs, Hr, Hp⟩
  isplitl [Hs Hr]; · isplitl [Hs] <;> iassumption
  isplitl [Hp]; · iexact Hp
  isplitr; · iempintro
  isplitl [Hk]; · iexact Hk
  iexact Hb

/-- The unscoped buffers that are no array of the region. -/
abbrev others : Finset (DevRef τ sig) := Pipeline.ucRefs τ sig \ Pipeline.arrRefs (τ := τ) spec0

theorem out_mem : (Proc.devRef .tc main_v10 : DevRef τ sig) ∈ Pipeline.arrRefs (τ := τ) spec0 := by
  unfold Pipeline.arrRefs
  exact Finset.mem_map.mpr ⟨main_v10, Finset.mem_image.mpr ⟨(2 : Fin 3), Finset.mem_univ _, rfl⟩, rfl⟩

theorem V'_others (c : Dev nD) (b : DevRef τ sig) (hb : b ∈ others \ (∅ : Finset (DevRef τ sig))) : V' m c b = V1 m c b := by
  refine Function.update_of_ne (fun h => ?_) _ _
  subst h
  exact (Finset.mem_sdiff.mp (Finset.mem_sdiff.mp hb).1).2 out_mem

theorem owed_lv (c : Dev nD) (t : Fin (cfg0.N + 1)) (g : GSem nD τ sig) (i : Unit) (h : 0 < (dats m 0 c).owed t g i) : i ∈ L g ∧ 0 < lv g i := by
  obtain ⟨t, ht⟩ := t
  cases t with
  | zero => exact O₀_lv h
  | succ t => exact absurd h (Nat.lt_irrefl 0)

theorem staging_L (c : Dev nD) (q : DmaSem sig) : () ∈ L ((c : Thread nD τ), .dma q) := by rw [L_tc]; exact Finset.mem_singleton_self _
theorem staging_lv : ∀ (w : Fin 3) (s : Fin (spec0 w).nbuf), roleLevel (role (.dma ((spec0 w).sem s))) ≤ 0 := by decide

set_option backward.isDefEq.respectTransparency.types false in
/-- The region's record: entered from the protocol's state, left with the result in its buffer and the barrier's counter at zero. -/
def reg0 : Pipeline.RegionSeg (pcfgs (F := F)) adm (dats m) () defs₀ 𝒱₀ L lv 0 :=
  Pipeline.RegionSeg.ofTalk (pcfgs (F := F)) adm (dats m) () defs₀ 𝒱₀ L lv 0 osem (by decide +kernel : Pipeline.OwnSemFacts spec0 osem)
    ∅ others (Finset.empty_subset _) launch0.toP rfl (fun c => (body_obligation m c).loose)
    (fun _ => 0) O₀ (fun c => (zero_add _).symm) (fun _ => rfl) (fun _ => rfl) (fun c w => by unfold Pipeline.Dat.share; split <;> rfl)
    (V1 m) (V' m) (V'_others m)
    (Tk m) Yk (Xk m) Yk (region_open m) (region_in m) (region_out m)
    (fun c => by iintro H; imodintro; iexact H)
    (fun _ => 0)
    ⟨fun c w s => staging_L c _, fun c w s => staging_lv w s, fun c t g i h => owed_lv m c t g i h⟩
    (fun _ => iprop(emp))
    (fun c w => by match w with
      | ⟨0, _⟩ => rfl
      | ⟨1, _⟩ => rfl
      | ⟨2, _⟩ => rfl)
    (fun c w => by match w with
      | ⟨0, _⟩ => exact (arr_x m c _).trans (V'_of m c main_arg0 (by decide)).symm
      | ⟨1, _⟩ => exact (arr_y m c _).trans (V'_of m c main_v9 (by decide)).symm
      | ⟨2, _⟩ => exact (arr_out m c).trans (V'_out m c).symm)

end Proof
end
-- ==== Proof.Funding.lean ====
module

public import proofs.«01_k».proof.Proof.Launch

@[expose] public section

noncomputable section

/-! # The protocol's state at launch

Every barrier cell is funded from its counter; every copy cell is funded shut, its counter coming with the region.
The tokens of the duties are dealt to the devices that pay them. -/

namespace Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

def barEmb : Dev nD ↪ GSem nD τ sig := ⟨fun c => barCell c, fun _ _ h => congrArg (fun g : GSem nD τ sig => g.1.1) h⟩
def copyEmb : Dev nD × Fin 4 × Fin 8 ↪ GSem nD τ sig :=
  ⟨fun ck => cell ck.1 ck.2.1 ck.2.2, fun _ _ h =>
    Prod.ext (congrArg (fun g : GSem nD τ sig => g.1.1) h) (osem_inj (congrArg Prod.snd h))⟩

/-- All barrier cells. -/
abbrev barCells : Finset (GSem nD τ sig) := Finset.univ.map barEmb
/-- All copy cells. -/
abbrev copyCells : Finset (GSem nD τ sig) := Finset.univ.map copyEmb

theorem disjoint_cells : Disjoint (barCells : Finset (GSem nD τ sig)) copyCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- A duty of a device's cells: a raise of its barrier, or a landing on a copy cell. -/
abbrev Duty : Type := Bool ⊕ (Fin 4 × Fin 8)
/-- The cell of a duty. -/
def dutySem : Duty → SemLoc sig
  | .inl _ => .reg barS
  | .inr k => osem k
/-- The duty's name at its cell. -/
def dutyName : Duty → Bool
  | .inl b => b
  | .inr _ => true

theorem duty_inj : Function.Injective fun k : Duty => (dutySem k, dutyName k) := by
  rintro (b | k) (b' | k') h
  · exact congrArg Sum.inl (congrArg Prod.snd h)
  · exact absurd (congrArg Prod.fst h).symm (osem_ne_bar k')
  · exact absurd (congrArg Prod.fst h) (osem_ne_bar k)
  · exact congrArg Sum.inr (osem_inj (congrArg Prod.fst h))

def tokEmb : Dev nD × Duty ↪ GSem nD τ sig × ℕ × Bool :=
  ⟨fun ck => (((ck.1 : Thread nD τ), dutySem ck.2), 0, dutyName ck.2), fun _ _ h =>
    Prod.ext (congrArg (fun t : GSem nD τ sig × ℕ × Bool => t.1.1.1) h)
      (duty_inj (Prod.ext (congrArg (fun t : GSem nD τ sig × ℕ × Bool => t.1.2) h) (congrArg (fun t : GSem nD τ sig × ℕ × Bool => t.2.2) h)))⟩
/-- Every duty of every cell. -/
def talkToks : Finset (GSem nD τ sig × ℕ × Bool) := Finset.univ.map tokEmb

/-- The duties at a device's own cells. -/
def ownToks (d : Dev nD) : sProp 𝕄 :=
  iprop(dutyTok ER (barCell d) 0 true ∗ dutyTok ER (barCell d) 0 false
    ∗ (bigSep Finset.univ fun i => dutyTok ER (cell d 0 i) 0 true) ∗ (bigSep Finset.univ fun i => dutyTok ER (cell d 1 i) 0 true)
    ∗ (bigSep Finset.univ fun i => dutyTok ER (cell d 2 i) 0 true) ∗ (bigSep Finset.univ fun i => dutyTok ER (cell d 3 i) 0 true))

theorem bigSep_bool (Φ : Bool → sProp 𝕄) : bigSep Finset.univ Φ = iprop(Φ true ∗ Φ false) := by
  rw [show (Finset.univ : Finset Bool) = {true, false} from by decide, bigSep_insert (by decide), bigSep_singleton]
  rfl

/-- The tokens of all duties, device by device. -/
theorem toks_own : bigSep talkToks (fun x => (dutyTok ER x.1 x.2.1 x.2.2 : sProp 𝕄)) ⊢ bigSep Finset.univ fun c : Dev nD => ownToks c := by
  have h (c : Dev nD) : (bigSep Finset.univ fun k : Duty => dutyTok ER (tokEmb (c, k)).1 (tokEmb (c, k)).2.1 (tokEmb (c, k)).2.2)
      ⊢ (ownToks c : sProp 𝕄) := by
    rw [BI.bigSep_univ_sum, bigSep_bool]
    unfold ownToks
    rw [← quad (fun p i => dutyTok ER (cell c p i) 0 true)]
    exact BI.sep_assoc
  unfold talkToks
  rw [BI.bigSep_map, BI.bigSep_univ_prod]
  exact bigSep_mono fun c _ => h c

/-- Each duty dealt to the device that pays it. -/
theorem toks_around : (bigSep Finset.univ fun c : Dev nD => (ownToks c : sProp 𝕄)) ⊢ bigSep Finset.univ fun c : Dev nD => toks c := by
  unfold ownToks toks
  simp only [bigSep_sep']
  rw [bigSep_univ_equiv xpE (fun c : Dev nD => (dutyTok ER (barCell c) 0 true : sProp 𝕄)),
    bigSep_univ_equiv ypE (fun c : Dev nD => (dutyTok ER (barCell c) 0 false : sProp 𝕄)),
    bigSep_univ_equiv xpE (fun c : Dev nD => (bigSep Finset.univ fun i => dutyTok ER (cell c 1 i) 0 true : sProp 𝕄)),
    bigSep_univ_equiv ypE (fun c : Dev nD => (bigSep Finset.univ fun i => dutyTok ER (cell c 3 i) 0 true : sProp 𝕄))]
  exact BI.Entails.refl _

/-! ## The launch element -/

/-- The launch element: the pipeline library's, and the protocol's. -/
def u₀ : UU :=
  (initOf (Pipeline.cells (Pipeline.pin (pcfgs (F := F)) adm) cellOf_inj) (Pipeline.launchToks (Pipeline.pin (pcfgs (F := F)) adm) cellOf_inj),
    launchOf barCells copyCells talkToks)

/-- A resource given to one device, nothing to the others. -/
def onDev (c₀ : Dev nD) (R : sProp 𝕄) (c : Dev nD) : sProp 𝕄 := if c = c₀ then R else iprop(emp)
theorem bigSep_onDev (c₀ : Dev nD) (R : sProp 𝕄) : bigSep Finset.univ (onDev c₀ R) = R := by
  rw [bigSep_univ_at _ c₀, BI.bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp BI.sep_emp

/-- The launch element of the protocol, kept by device 0 until all devices are funded at once. -/
def G : Dev nD → sProp 𝕄 := onDev 0 (BI.own (ER (launchOf barCells copyCells talkToks)))

/-! ## What each device holds as the program starts -/

/-- Two families over the devices as one of pairs, and back. -/
theorem pair_up {A B : Dev nD → sProp 𝕄} : iprop(bigSep Finset.univ A ∗ bigSep Finset.univ B) ⊢ bigSep Finset.univ fun c => iprop(A c ∗ B c) :=
  Entails.of_eq (BI.bigSep_sep _ _ _).symm
theorem pair_off {A B : Dev nD → sProp 𝕄} : (bigSep Finset.univ fun c => iprop(A c ∗ B c)) ⊢ iprop(bigSep Finset.univ A ∗ bigSep Finset.univ B) :=
  Entails.of_eq (BI.bigSep_sep _ _ _)

/-- What every device may consult: the invariants, and that every barrier is at round zero. -/
def records (K : GSem nD τ sig → ℕ) : sProp 𝕄 :=
  iprop((bigSep (barCells ∪ copyCells) fun g => cellInv ER (Rd (xIn m) (yIn m)) (K g) g) ∗ bigSep barCells fun g => reached ER g 0)

instance records_persistent (K : GSem nD τ sig → ℕ) : BI.Persistent (records m K) := by unfold records; infer_instance

theorem invs_eq (K : GSem nD τ sig → ℕ) :
    (bigSep (barCells ∪ copyCells) fun g => (cellInv ER (Rd (xIn m) (yIn m)) (K g) g : sProp 𝕄)) = invs (xIn m) (yIn m) K := by
  rw [BI.bigSep_union disjoint_cells, BI.bigSep_map, BI.bigSep_map]
  rfl

theorem reached_at (c : Dev nD) : (bigSep barCells fun g => (reached ER g 0 : sProp 𝕄)) ⊢ reached ER (barCell c) 0 :=
  BI.bigSep_elim (Finset.mem_map_of_mem barEmb (Finset.mem_univ c))

/-- A device's own share of the protocol's state. -/
def share (c : Dev nD) : sProp 𝕄 :=
  iprop(atPos ER (barCell c) 0 ∅ 0 ∗ (bigSep Finset.univ fun k : Fin 4 × Fin 8 => openTok ER (cell c k.1 k.2)) ∗ toks c)

/-- What a device holds besides its share. -/
def bundle (c : Dev nD) : sProp 𝕄 :=
  iprop(StableHlo.held (c : Thread nD τ) (Pipeline.ucRefs τ sig) (V0 m c) ∗ credits c ∗ owes (c : Thread nD τ) (O₀ c) ∅ ∗ ∃ r, prngReg c r)

/-- What rides beside the buffers through the program's host operations. -/
def ride (c : Dev nD) : sProp 𝕄 :=
  iprop(Tk m c ∗ (∃ r, prngReg c r) ∗ ∃ W, owes (c : Thread nD τ) (O₀ c) W)

/-- What a device holds as the program starts. -/
abbrev T₀ (c : Dev nD) : sProp 𝕄 := iprop(StableHlo.held (c : Thread nD τ) (Pipeline.ucRefs τ sig) (V0 m c) ∗ ride m c)

theorem T₀_intro (K : GSem nD τ sig → ℕ) (c : Dev nD) : iprop(records m K ∗ (share c ∗ bundle m c)) ⊢ T₀ m c := by
  unfold records
  rw [invs_eq]
  unfold share bundle T₀ ride Tk shut
  iintro ⟨⟨#HI, #HR⟩, ⟨Ha, Ho, Ht⟩, Hh, Hc, HO, Hp⟩
  isplitl [Hh]; · iexact Hh
  isplitl [Ha Ho Ht Hc]
  · isplitr [Hc]
    · iexists K
      isplitr; · iexact HI
      isplitr
      · isplitr
        · iapply (reached_at (F := F) (xp c)); iexact HR
        · iapply (reached_at (F := F) (yp c)); iexact HR
      isplitl [Ha]; · iexact Ha
      isplitl [Ho] <;> iassumption
    · iexact Hc
  isplitl [Hp]; · iexact Hp
  iexists ∅; iexact HO

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The launch: from what the machine gives every device, every cell is funded and each device has its holdings. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop((semVal (barCell c) 0 ∗ G c) ∗ bundle m c) : sProp 𝕄) := by
    rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c), unscopedSems0_eq]
    unfold bundle
    iintro ⟨Hh, Hus, HO, Hcr, Hp, HG⟩
    ihave Hc := (creds (F := F) c) $$ Hcr
    isplitl [Hus HG]; · isplitl [Hus] <;> iassumption
    isplitl [Hh]; · iexact Hh
    isplitl [Hc]; · unfold credits; iexact Hc
    isplitl [HO]; · iexact HO
    iexists (ρ c); iexact Hp
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hopen : bigSep copyCells (fun g => (openTok ER g : sProp 𝕄))
      ⊢ bigSep Finset.univ (fun c : Dev nD => bigSep Finset.univ fun k : Fin 4 × Fin 8 => openTok ER (cell c k.1 k.2)) :=
    Entails.of_eq (by rw [BI.bigSep_map, BI.bigSep_univ_prod]; rfl)
  have hall : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c))
      ⊢ (bigSep Finset.univ fun c : Dev nD => iprop((semVal (barCell c) 0 ∗ G c) ∗ bundle m c) : sProp 𝕄) := bigSep_mono fun c _ => hcore c
  iintro ⟨H, -⟩
  ihave H' := hall $$ H
  ihave H2 := pair_off $$ H'; icases H2 with ⟨H3, HB⟩
  ihave H4 := pair_off $$ H3; icases H4 with ⟨Hv, HG⟩
  ihave Hu := (show bigSep Finset.univ (G (F := F)) ⊢ BI.own (ER (launchOf barCells copyCells talkToks)) from
    Entails.of_eq (bigSep_onDev (F := F) 0 (BI.own (ER (launchOf barCells copyCells talkToks))))) $$ HG
  imod (Rounds.fund_launch ER (Rd (F := F) (xIn m) (yIn m)) disjoint_cells (fun g _ h => h) talkToks) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(share c ∗ bundle m c)) fun c _ => T₀_intro m K c)
  isplitr
  · unfold records
    isplitr; · iexact Hinv
    iexact Hr
  iapply pair_up
  isplitr [HB]
  · unfold share
    iapply pair_up; isplitl [Hat]; · iapply hat $$ Hat
    iapply pair_up; isplitl [Hopen]; · iapply hopen $$ Hopen
    iapply (toks_around (F := F))
    iapply (toks_own (F := F)) $$ Htok
  · iexact HB

end Proof
end
-- ==== Proof.Run.lean ====
module

public import proofs.«01_k».proof.Proof.Funding

@[expose] public section

noncomputable section

/-! # The run of the whole program -/

namespace Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)

variable {F : FTy → Type} [FloatOps F]

local notation "𝕄" => MT nD τ sig Unit (Elt F) ℕ UU ℕ

variable (m : (ℓ : Loc nD τ sig) → Buf (Elt F) ℓ) (ρ : Dev nD → PrngReg)

theorem arr_sub : Pipeline.arrRefs (τ := τ) spec0 ⊆ Pipeline.ucRefs τ sig :=
  Pipeline.arrRefs_sub_ucRefs spec0 (by decide)

/-- What a device holds as the program ends. -/
def Tₙ (c : Dev nD) : sProp 𝕄 := iprop(StableHlo.held (c : Thread nD τ) (Pipeline.ucRefs τ sig) (V' m c) ∗ semVal (barCell c) 0)

/-- The region is entered from what the host operations leave. -/
theorem enter (c : Dev nD) : iprop(StableHlo.held (c : Thread nD τ) (Pipeline.ucRefs τ sig) (V1 m c) ∗ ride m c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + O₀ c) Wd)
  rw [StableHlo.held_sub_split (c.tc : Thread nD τ) arr_sub (V1 m c), zero_add]
  unfold ride
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

/-- What the region leaves is what a device holds at the end, with nothing owed. -/
theorem leave (c : Dev nD) : (reg0 m).post c ⊢ iprop(Tₙ m c ∗ ∃ W, owes (c : Thread nD τ) (0 : CellTallies nD τ sig Unit) W) := by
  show iprop(StableHlo.held (c.tc : Thread nD τ) (Pipeline.arrRefs (τ := τ) spec0) (V' m c) ∗ (∃ r, prngReg c r)
    ∗ (StableHlo.held (c.tc : Thread nD τ) others (V' m c) ∗ emp) ∗ Yk c ∗ ∃ Wd, owes (c : Thread nD τ) (0 : CellTallies nD τ sig Unit) Wd) ⊢ _
  unfold Tₙ Yk
  rw [StableHlo.held_sub_split (c.tc : Thread nD τ) arr_sub (V' m c)]
  iintro ⟨Ha, -, ⟨Ho, -⟩, Hb, HO⟩
  isplitr [HO]
  · isplitl [Ha Ho]
    · isplitl [Ha] <;> iassumption
    · iexact Hb
  iexact HO

theorem unscoped_eq : ∀ sm : SemLoc sig, sm.isScoped .tc = false → sm = .reg barS := by decide

/-- What is read off a device's final state: its arguments as launched, its result, and its barrier's counter. -/
def Final (c : Dev nD) (s : MemSt nD τ sig (Elt F)) : Prop :=
  ((s.mem ((c.tc : Thread nD τ).loc main_arg0) = m ((c.tc : Thread nD τ).loc main_arg0)
    ∧ s.mem ((c.tc : Thread nD τ).loc main_arg1) = m ((c.tc : Thread nD τ).loc main_arg1))
    ∧ s.mem ((c.tc : Thread nD τ).loc main_v10) = outAt (xIn m) (yIn m) c) ∧ s.sem (barCell c) = 0

theorem arg_end (c : Dev nD) (r : Ref sig .tc) (h : r ≠ main_v10) (h' : r ∉ hostOps0_W) : V' m c r = m ((c.tc : Thread nD τ).loc r) :=
  (V'_of m c r h).trans (V1_of m c r h')

theorem final_read (c : Dev nD) (s' : Phys nD τ sig (Elt F)) : iprop(Tₙ m c ∗ SI s') ⊢ (|={Set.univ}=> iprop(⌜Final m c s'.mem⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (V' m c) s') $$ [Hh HSI]
  · isplitl [Hh] <;> iassumption
  icases Hr with ⟨%h, HSI⟩
  imodintro
  isplitr
  · ipureintro
    exact ⟨⟨⟨(h (Proc.devRef .tc main_arg0) (Finset.mem_filter.mpr ⟨StableHlo.devRef_mem_tcRefs main_arg0, by decide⟩)).trans (arg_end m c main_arg0 (by decide) (by decide)),
      (h (Proc.devRef .tc main_arg1) (Finset.mem_filter.mpr ⟨StableHlo.devRef_mem_tcRefs main_arg1, by decide⟩)).trans (arg_end m c main_arg1 (by decide) (by decide))⟩,
      (h (Proc.devRef .tc main_v10) (Finset.mem_filter.mpr ⟨StableHlo.devRef_mem_tcRefs main_v10, by decide⟩)).trans (V'_out m c)⟩, by simpa using hb⟩
  · iexact HSI

set_option backward.isDefEq.respectTransparency.types false in
/-- From any memory with zero counters, every weakly fair run of the program on the four devices ends, with the
    arguments unchanged, the result of each device holding what the devices formed for it, and every counter zero. -/
theorem run_main : θ_run defs (onTc (τ := τ) (main (F := F))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v10) = outAt (xIn m) (yIn m) c) ∧ r.2.sem = fun _ => 0) := by
  refine Pipeline.θ_run_regions_kit_dev_sems (pcfgs (F := F)) adm (dats m) () cellOf_inj EP defs₀ 𝒱₀ L lv m ρ main
    (segs m 𝒱₀ L lv (fun _ => ride m) () (dats m) (reg0 m))
    (fun c Q => by
      rewrite [main_chain c, Seg.run_eq_chain,
        show (segs m 𝒱₀ L lv (fun _ => ride m) () (dats m) (reg0 m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G (u₀ (F := F))
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := fun c => ⟨.rfl, enter m c, leave m c⟩)
    (hinit := init m ρ) (QY := Final m)
    (hfin := final_read m) (hQ := fun s h hs => ⟨fun c => (h c).1, sem_eq_zero hs fun c sm hsm => by
        obtain rfl := unscoped_eq sm hsm
        exact (h c).2⟩)

end Proof
end
-- ==== Proof.RefValue.lean ====
module

public import proofs.«01_k».proof.Proof.Gen.ReferenceIdeal
public import Idealize.ShloMosaic.Lib.StableHlo.Run
public import Idealize.ShloMosaic.Lib.StableHlo.RunHlo
public import Idealize.ShloMosaic.Lib.Quiescent
public import Idealize.ShloMosaic.Lib.Pointwise

@[expose] public section

noncomputable section

/-! # What the reference computes

The reference is five host operations on one device: both arguments widened, the first transposed, their product,
and the product narrowed. Over the reals its element at `(r, q)` is the sum over the 4096 rows of `x k r * dy k q`. -/

namespace Proof.Reference

open Cert.ReferenceIdeal Cert.ReferenceIdeal.Gen
open Idealize.ShloMosaic Idealize.ShloMosaic.TcCoe Idealize.SL.Sem

variable {F : FTy → Type} [FloatOps F]

/-- The reference's result from its two arguments. -/
def refOut (x : FVec F S4096x2048 .bf16) (y : FVec F S4096x8192 .bf16) : FVec F S2048x8192 .bf16 :=
  truncf .bf16 (Host.dotGeneral dot_S2048x4096_S4096x8192_S2048x8192_1_0_0_1_n_n none
    (transpose S2048x4096 [1, 0] (extf .f32 x bitsLt_bf16_f32) transposes_S4096x2048_S2048x4096_1_0)
    (extf .f32 y bitsLt_bf16_f32)) bitsLt_bf16_f32

/-- From any memory the reference terminates, its result buffer at `refOut` of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c main_v4).trans ?_, (h c main_arg0).trans ?_, (h c main_arg1).trans ?_⟩)
    (StableHlo.run_hlo _ _ (by hlo_seq) (by decide) (by decide) (by simp)
      (by intro _ h; (repeat (cases h with | head => rfl | tail _ h => ?_)); exact nomatch h) m ρ)
  · after_results
    rfl
  · after_results
  · after_results

/-- Over the reals the result at `(r, q)` is the sum over all rows. -/
theorem refOut_apply (x : FVec Ideal S4096x2048 .bf16) (y : FVec Ideal S4096x8192 .bf16) (r : Fin 2048) (q : Fin 8192) :
    refOut (F := Ideal) x y (ix2 r q) = ∑ k : Fin 4096, x (ix2 k r) * y (ix2 k q) := by
  unfold refOut
  pointwise

end Proof.Reference
end
-- ==== Proof.TileValue.lean ====
module

public import proofs.«01_k».proof.Proof.Chunks
public import Idealize.ShloMosaic.Lib.Pointwise

@[expose] public section

noncomputable section

/-! # What one chunk computes, over the reals

A tile product is the sum over the 2048 rows of a device; the sum of two tiles is the sum element by element. -/

namespace Proof

open Cert.KernelIdeal Cert.KernelIdeal.Gen
open Idealize.ShloMosaic Idealize.ShloMosaic.TcCoe

/-- A tile product at `(a, b)`: the sum over the rows. -/
theorem tileDot_apply (x : Vec Ideal S2048x1024 .bf16) (y : Vec Ideal S2048x512 .bf16) (a : Fin 1024) (b : Fin 512) :
    tileDot (F := Ideal) x y (ix2 a b) = ∑ k : Fin 2048, x (ix2 k a) * y (ix2 k b) := by
  unfold tileDot
  pointwise

/-- The tile stored for sending is the tile product. -/
theorem tileSend_apply (x : Vec Ideal S2048x1024 .bf16) (y : Vec Ideal S2048x512 .bf16) (a : Fin 1024) (b : Fin 512) :
    tileSend (F := Ideal) x y (ix2 a b) = ∑ k : Fin 2048, x (ix2 k a) * y (ix2 k b) := by
  unfold tileSend
  rw [shapeCast_self]
  exact tileDot_apply x y a b

/-- The sum of two tiles at an index. -/
theorem tileAdd_apply (o r : Vec Ideal S1024x512 .bf16) (j : S1024x512.Idx) :
    tileAdd (F := Ideal) o r j = (o j + r j : EReal) := by
  unfold tileAdd
  rw [shapeCast_self]
  rfl

end Proof
end
-- ==== Proof.Inputs.lean ====
module

public import proofs.«01_k».proof.Proof.Region
public import Idealize.ShloMosaic.Lib.DynamicIndex
public import Idealize.ShloMosaic.Lib.Pointwise

@[expose] public section

noncomputable section

/-! # What the kernel is called on

The host hands each device its rows of `x` as they are, and of its rows of `dy` the half of the columns that its
coordinate along the second mesh axis names. -/

namespace Proof

open Cert.KernelIdeal Cert.KernelIdeal.Gen
open Idealize.ShloMosaic Idealize.ShloMosaic.TcCoe

variable {F : FTy → Type} [FloatOps F]
variable (m : (ℓ : Loc nD τ sig) → Buf (Elt F) ℓ)

/-- Where the half of the columns that device `c` works on starts, as the host computes it. -/
def startWord (c : Dev nD) : BitVec 32 :=
  let w := IntOp.muli (IntOp.remui .host (IntOp.divui .host (Dev.word c) 1#32) 2#32) 4096#32
  Scalar.select (IntOp.cmpi .slt w 0#32) (IntOp.addi w 8192#32) w

/-- It is `4096` times the device's second coordinate. -/
theorem startWord_eq (c : Dev nD) : (startWord c).toInt = ((4096 * (c.val % 2) : Nat) : Int) := by
  revert c; decide

/-- The kernel's first argument is the device's block of `x`. -/
theorem xIn_eq (c : Dev nD) : xIn m c = m ((c.tc : Thread nD τ).loc main_arg0) :=
  V1_of m c main_arg0 (by decide)

/-- The device's buffers before the last host operation. -/
abbrev beforeCut (c : Dev nD) : Valuation τ sig (Elt F) := StableHlo.after ((hostOps0 c).take 14) (V0 m c)

/-- The row start is zero. -/
theorem start_row (c : Dev nD) : beforeCut m c (Proc.tc.devRef main_c_4) = constantI S_ 32 0#32 := by
  unfold beforeCut
  simp only [hostOps0, List.take_succ_cons, List.take_zero]
  after_results

/-- The column start is `startWord`. -/
theorem start_col (c : Dev nD) : beforeCut m c (Proc.tc.devRef main_v8) = fun _ => startWord c := by
  unfold beforeCut
  simp only [hostOps0, List.take_succ_cons, List.take_zero]
  after_results
  rfl

/-- The kernel's second argument is cut out of the device's block of `dy`. -/
theorem yIn_eq (c : Dev nD) : yIn m c = Host.dynamicSlice S2048x4096 (m ((c.tc : Thread nD τ).loc main_arg1))
    (![0, (startWord c).toInt] : Fin 2 → Int) sliceFits_S2048x8192_S2048x4096 := by
  unfold yIn V1
  after_results
  refine congrArg (fun k => Host.dynamicSlice S2048x4096 (m ((c.tc : Thread nD τ).loc main_arg1)) k sliceFits_S2048x8192_S2048x4096) ?_
  funext k
  match k with
  | 0 => exact congrArg BitVec.toInt (congrFun (start_row m c) (Shape.Idx.first h_S_))
  | 1 => exact congrArg BitVec.toInt (congrFun (start_col m c) (Shape.Idx.first h_S_))

/-- Its element at row `k` and column `q` is the element of the device's block of `dy` in that row, `q` columns into the
    device's half. -/
theorem yIn_apply (c : Dev nD) (k : Fin 2048) (q : Fin 4096) :
    yIn m c (ix2 k q) = m ((c.tc : Thread nD τ).loc main_arg1)
      (ix2 k ⟨4096 * (c.val % 2) + q.val, by have := q.isLt; omega⟩ : S2048x8192.Idx) := by
  have hin : S2048x8192.Slices ![0, 4096 * (c.val % 2)] S2048x4096 := ⟨rfl, fun a => by
    match a with
    | 0 => show 0 + 2048 ≤ 2048; omega
    | 1 => show 4096 * (c.val % 2) + 4096 ≤ 8192; omega⟩
  rw [yIn_eq]
  refine (congrFun (Host.dynamicSlice_eq_extractStridedSlice (s := S2048x8192) S2048x4096 _ (![0, (startWord c).toInt] : Fin 2 → Int)
    ![0, 4096 * (c.val % 2)] _ hin fun a => ?_) (ix2 k q)).trans ?_
  · match a with
    | 0 => rfl
    | 1 => exact startWord_eq c
  unfold extractStridedSlice
  refine congrArg (m ((c.tc : Thread nD τ).loc main_arg1)) (funext fun a => Fin.ext ?_)
  match a with
  | 0 => exact Nat.zero_add _
  | 1 => rfl

end Proof
end
-- ==== Proof.Equation.lean ====
module

public import proofs.«01_k».proof.Proof.TileValue
public import proofs.«01_k».proof.Proof.Inputs
public import proofs.«01_k».proof.Proof.RefValue
public import Idealize.ShloMosaic.Lib.Layout
public import Idealize.ShloMosaic.Lib.Pipeline.ValueKit.Geometry

@[expose] public section

noncomputable section

/-! # The equation

Over the reals the sum over the 4096 rows of the whole arrays is the sum over the 2048 rows of the one row of
devices and the sum over the 2048 rows of the other. A chunk of the result adds the one, which the device forms
itself, to the other, which its neighbour along the first axis forms. -/

namespace Proof

open Cert.KernelIdeal Cert.KernelIdeal.Gen
open Idealize.ShloMosaic Idealize.ShloMosaic.TcCoe

/-- The whole of `x`, over the reals. -/
abbrev WholeX := FVec Ideal ⟨2, ![4096, 2048]⟩ .bf16
/-- The whole of `dy`, over the reals. -/
abbrev WholeY := FVec Ideal ⟨2, ![4096, 8192]⟩ .bf16

/-- The sum over the rows that the devices of first coordinate `h` hold. -/
def half (x : WholeX) (y : WholeY) (h : Fin 2) (r : Fin 2048) (q : Fin 8192) : EReal :=
  ∑ k : Fin 2048, x (ix2 ⟨2048 * h.val + k.val, by have := h.isLt; have := k.isLt; omega⟩ r)
    * y (ix2 ⟨2048 * h.val + k.val, by have := h.isLt; have := k.isLt; omega⟩ q)

/-- The reference's element is the sum of the two halves. -/
theorem refOut_halves (x : WholeX) (y : WholeY) (r : Fin 2048) (q : Fin 8192) :
    Reference.refOut (F := Ideal) x y (ix2 r q) = half x y 0 r q + half x y 1 r q := by
  rw [Reference.refOut_apply]
  refine (Fin.sum_univ_add (a := 2048) (b := 2048) fun k : Fin (2048 + 2048) => x (ix2 (k : Fin 4096) r) * y (ix2 (k : Fin 4096) q)).trans ?_
  refine congrArg₂ (· + ·) (Finset.sum_congr rfl fun k _ => ?_) (Finset.sum_congr rfl fun k _ => ?_)
  · have e : (⟨2048 * (0 : Fin 2).val + k.val, by have := k.isLt; show 2048 * 0 + k.val < 4096; omega⟩ : Fin 4096) = Fin.castAdd 2048 k :=
      Fin.ext (by show 2048 * 0 + k.val = k.val; omega)
    rw [e]
  · have e : (⟨2048 * (1 : Fin 2).val + k.val, by have := k.isLt; show 2048 * 1 + k.val < 4096; omega⟩ : Fin 4096) = Fin.natAdd 2048 k :=
      Fin.ext (by show 2048 * 1 + k.val = 2048 + k.val; omega)
    rw [e]

/-- In either order. -/
theorem refOut_halves_of (x : WholeX) (y : WholeY) (h h' : Fin 2) (hne : h ≠ h') (r : Fin 2048) (q : Fin 8192) :
    Reference.refOut (F := Ideal) x y (ix2 r q) = half x y h r q + half x y h' r q := by
  rw [refOut_halves]
  match h, h' with
  | 0, 0 => exact absurd rfl hne
  | 0, 1 => rfl
  | 1, 0 => exact add_comm _ _
  | 1, 1 => exact absurd rfl hne

/-- The first coordinate of a device. -/
abbrev row (d : Dev nD) : Fin 2 := ⟨d.val / 2, by have : d.val < 4 := d.isLt; omega⟩

/-- The neighbour along the first axis is in the other row of devices. -/
theorem row_xp (d : Dev nD) : row d ≠ row (xp d) := by revert d; decide
/-- Its first coordinate is the other one. -/
theorem row_xp_val (d : Dev nD) : (xp d).val / 2 = 1 - d.val / 2 := by revert d; decide
/-- Its second coordinate is the same. -/
theorem col_xp_val (d : Dev nD) : (xp d).val % 2 = d.val % 2 := by revert d; decide
/-- The neighbour along the second axis has the same first coordinate. -/
theorem row_side (d : Dev nD) (b : Bool) : (if b then d else yp d : Dev nD).val / 2 = d.val / 2 := by revert d b; decide

variable (m : (ℓ : Loc nD τ sig) → Buf (Elt Ideal) ℓ) (x : WholeX) (y : WholeY)

/-- Each device's first argument is its block of `x`. -/
def HoldsX : Prop := ∀ c : Dev nD, m ((c.tc : Thread nD τ).loc main_arg0)
  = Layout.blockN ⟨2, ![2048, 2048]⟩ ⟨2, ![4096, 2048]⟩ (Layout.meshBlock [2, 2] ![[0], []] c) x

/-- Each device's second argument is its block of `dy`. -/
def HoldsY : Prop := ∀ c : Dev nD, m ((c.tc : Thread nD τ).loc main_arg1)
  = Layout.blockN ⟨2, ![2048, 8192]⟩ ⟨2, ![4096, 8192]⟩ (Layout.meshBlock [2, 2] ![[0], []] c) y

variable (hx : HoldsX m x) (hy : HoldsY m y)

include hx in
/-- A device's `x` is its rows of the whole. -/
theorem xIn_whole (c : Dev nD) (k a : Fin 2048) :
    xIn m c (ix2 k a) = x (ix2 ⟨2048 * (row c).val + k.val, by have := (row c).isLt; have := k.isLt; omega⟩ a) := by
  rw [xIn_eq, hx c, Layout.blockN_apply]
  refine congrArg x (funext fun b => Fin.ext ?_)
  have hc : c.val < 4 := c.isLt
  match b with
  | 0 => show (c.val / 2 % 2 * 1 + 0) * 2048 + k.val = 2048 * (c.val / 2) + k.val; omega
  | 1 => show 0 * 2048 + a.val = a.val; omega

include hy in
/-- What the kernel takes of a device's `dy` is its rows of the whole, and of them its half of the columns. -/
theorem yIn_whole (c : Dev nD) (k : Fin 2048) (q : Fin 4096) :
    yIn m c (ix2 k q) = y (ix2 ⟨2048 * (row c).val + k.val, by have := (row c).isLt; have := k.isLt; omega⟩
      ⟨4096 * (c.val % 2) + q.val, by have := q.isLt; omega⟩) := by
  rw [yIn_apply, hy c, Layout.blockN_apply]
  refine congrArg y (funext fun b => Fin.ext ?_)
  have hc : c.val < 4 := c.isLt
  match b with
  | 0 => show (c.val / 2 % 2 * 1 + 0) * 2048 + k.val = 2048 * (c.val / 2) + k.val; omega
  | 1 => show 0 * 8192 + (4096 * (c.val % 2) + q.val) = 4096 * (c.val % 2) + q.val; omega

include hx hy in
/-- A product over the rows of device `d`, of any 1024 columns of `x` and any chunk of `dy`, is a half sum. -/
theorem rows_half (d : Dev nD) (off : Fin 2 → Nat) (inb) (s : Nat) (hoff : off = ![0, s]) (i : Fin 8) (a : Fin 1024) (b : Fin 512)
    (r : Fin 2048) (hr : r.val = s + a.val) (q : Fin 8192) (hq : q.val = 4096 * (d.val % 2) + (512 * i.val + b.val)) :
    (∑ k : Fin 2048, xIn m d ((Rect.unit (s := S2048x2048) off S2048x1024.size inb).emb (ix2 k a))
      * yIn m d ((ycolR i).emb (ix2 k b)) : EReal) = half x y (row d) r q := by
  subst hoff
  refine Finset.sum_congr rfl fun k _ => ?_
  have ex : (Rect.unit (s := S2048x2048) ![0, s] S2048x1024.size inb).emb (ix2 k a) = ix2 k r := by
    refine funext fun c => Fin.ext ?_
    rw [ValueKit.rect_emb_unit_val]
    match c with
    | 0 => exact Nat.zero_add _
    | 1 => exact hr.symm
  have ey : (ycolR i).emb (ix2 k b) = ix2 k ⟨512 * i.val + b.val, by have := i.isLt; have := b.isLt; omega⟩ := by
    refine funext fun c => Fin.ext ?_
    rw [ValueKit.rect_emb_unit_val]
    match c with
    | 0 => exact Nat.zero_add _
    | 1 => rfl
  have eq : (⟨4096 * (d.val % 2) + (512 * i.val + b.val), by rw [← hq]; exact q.isLt⟩ : Fin 8192) = q := Fin.ext hq.symm
  rw [ex, ey, xIn_whole m x hx, yIn_whole m y hy, eq]

include hx hy in
/-- A chunk of the result is the reference's element. -/
theorem outVal_eq (e : Dev nD) (i : Fin 8) (a : Fin 1024) (b : Fin 512)
    (r : Fin 2048) (hr : r.val = 1024 * (e.val / 2) + a.val) (q : Fin 8192) (hq : q.val = 4096 * (e.val % 2) + (512 * i.val + b.val)) :
    outVal (F := Ideal) (xIn m) (yIn m) e i (ix2 a b) = Reference.refOut (F := Ideal) x y (ix2 r q) := by
  have he : e.val < 4 := e.isLt
  unfold outVal
  rw [tileAdd_apply]
  unfold keepVal sendVal
  rw [tileDot_apply, tileSend_apply, refOut_halves_of x y (row e) (row (xp e)) (row_xp e)]
  refine congrArg₂ (· + ·) ?_ ?_
  · exact rows_half m x y hx hy e _ _ _ (k0_off2_eq e) i a b r hr q hq
  · refine rows_half m x y hx hy (xp e) _ _ _ (k0_off1_eq (xp e)) i a b r ?_ q ?_
    · rw [row_xp_val]; omega
    · rw [col_xp_val]; exact hq

include hx hy in
/-- Each device's result is its block of the reference's. -/
theorem outAt_eq (c : Dev nD) : outAt (F := Ideal) (xIn m) (yIn m) c
    = Layout.blockN ⟨2, ![1024, 8192]⟩ ⟨2, ![2048, 8192]⟩ (Layout.meshBlock [2, 2] ![[0], []] c) (Reference.refOut (F := Ideal) x y) := by
  funext p
  obtain ⟨⟨b, i⟩, j, rfl⟩ := covered (resR c) (res_cover c) p
  obtain ⟨u, v, rfl⟩ : ∃ (u : Fin 1024) (v : Fin 512), j = ix2 u v := ⟨j 0, j 1, ValueIdx.eq_ix2 j⟩
  have hc : c.val < 4 := c.isLt
  have hs := row_side c b
  have hu := u.isLt
  have hv := v.isLt
  have hi := i.isLt
  have hoff := k0_off4_eq (if b then c else yp c) i
  refine (outAt_emb (xIn m) (yIn m) c b i (ix2 u v)).trans ?_
  rw [outVal_eq m x y hx hy _ i u v ⟨1024 * (c.val / 2) + u.val, by omega⟩ (by rw [hs])
    ⟨4096 * ((if b then c else yp c : Dev nD).val % 2) + (512 * i.val + v.val), by omega⟩ rfl, Layout.blockN_apply]
  refine congrArg (Reference.refOut (F := Ideal) x y) (funext fun a => Fin.ext ?_)
  rw [Layout.TilesN.idx_val]
  match a with
  | 0 =>
    show 1024 * (c.val / 2) + u.val = (c.val / 2 % 2 * 1 + 0) * 1024 + ((resR c (b, i)).emb (ix2 u v) 0).val
    rw [ValueKit.rect_emb_unit_val]
    have h0 : k0_off4 (if b then c else yp c) (BitVec.ofNat 32 (512 * i.val)) 0 = 0 := congrFun hoff 0
    show _ = _ + (k0_off4 (if b then c else yp c) (BitVec.ofNat 32 (512 * i.val)) 0 + u.val)
    rw [h0]
    omega
  | 1 =>
    show 4096 * ((if b then c else yp c : Dev nD).val % 2) + (512 * i.val + v.val) = 0 * 8192 + ((resR c (b, i)).emb (ix2 u v) 1).val
    rw [ValueKit.rect_emb_unit_val]
    have h1 : k0_off4 (if b then c else yp c) (BitVec.ofNat 32 (512 * i.val)) 1
      = 4096 * ((if b then c else yp c : Dev nD).val % 2) + 512 * i.val := congrFun hoff 1
    show _ = _ + (k0_off4 (if b then c else yp c) (BitVec.ofNat 32 (512 * i.val)) 1 + v.val)
    rw [h1]
    omega

end Proof
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.RefValue
public import proofs.«01_k».proof.Proof.Equation

@[expose] public section

noncomputable section

namespace Cert.Proof

open Idealize.ShloMosaic Idealize.SL.Sem

/-- The kernel's body table is that of the reading over the reals: the two programs have the same text. -/
theorem table_same : Cert.Kernel.defs (F := Bits) = Cert.KernelIdeal.defs (F := Bits) := by
  have h : Cert.Kernel.defs₀ (F := Bits) = Cert.KernelIdeal.defs₀ (F := Bits) := by
    unfold Cert.Kernel.defs₀ Cert.KernelIdeal.defs₀
    refine congrArg Defs.onTc (funext fun l => ?_)
    match l with
    | 0 => rfl
  exact congrArg (Pipeline.defs (Cert.KernelIdeal.pcfgs (F := Bits))) h

/-- The kernel runs on the bits: its arguments end unchanged and every semaphore counter at zero. -/
theorem frame_kernel : Cert.quiescent_Kernel (hKernel := Cert.Kernel.Gen.facts) := fun m ρ _ => by
  rw [table_same]
  exact (θ_run Cert.KernelIdeal.defs _ _).mono (fun _ h => ⟨fun c => (h.1 c).1, h.2⟩) (_root_.Proof.run_main (F := Bits) m ρ)

/-- The same of the reading over the reals. -/
theorem frame_kernelIdeal : Cert.quiescent_KernelIdeal (hKernelIdeal := Cert.KernelIdeal.Gen.facts) := fun m ρ _ =>
  (θ_run Cert.KernelIdeal.defs _ _).mono (fun _ h => ⟨fun c => (h.1 c).1, h.2⟩) (_root_.Proof.run_main (F := Ideal) m ρ)

/-- The reference runs: its arguments end unchanged, and it has no semaphore. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (_root_.Proof.Reference.run (F := Ideal) m ρ)

/-- Over the reals the four devices' results are the blocks of the reference's. -/
theorem algebraic : Cert.algebraic_KernelIdeal_ReferenceIdeal (hKernelIdeal := Cert.KernelIdeal.Gen.facts)
    (hReferenceIdeal := Cert.ReferenceIdeal.Gen.facts) := fun m ρ m' ρ' _ hargs =>
  ⟨_,
    (θ_run Cert.KernelIdeal.defs _ _).mono
      (fun _ h c => ⟨(h.1 c).2.trans (_root_.Proof.outAt_eq m _ _ (fun d => (hargs d).1) (fun d => (hargs d).2) c), (h.1 c).1⟩)
      (_root_.Proof.run_main (F := Ideal) m ρ),
    (θ_run Cert.ReferenceIdeal.defs _ _).mono (fun _ h => h 0) (_root_.Proof.Reference.run (F := Ideal) m' ρ')⟩

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
